-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v41)) (v3 : (c : Dev Cert.KernelIdeal.nD) → Buf (Elt Ideal) ((c.tc : Thread Cert.KernelIdeal.nD Cert.KernelIdeal.τ).loc Cert.KernelIdeal.main_v42)) (v4 : (c : Dev Cert.KernelIdeal.nD) → Buf (Elt Ideal) ((c.tc : Thread Cert.KernelIdeal.nD Cert.KernelIdeal.τ).loc Cert.KernelIdeal.main_v43)) (v5 : (c : Dev Cert.KernelIdeal.nD) → Buf (Elt Ideal) ((c.tc : Thread Cert.KernelIdeal.nD Cert.KernelIdeal.τ).loc Cert.KernelIdeal.main_v44)) (v6 : (c : Dev Cert.KernelIdeal.nD) → Buf (Elt Ideal) ((c.tc : Thread Cert.KernelIdeal.nD Cert.KernelIdeal.τ).loc Cert.KernelIdeal.main_v45)) (v7 : (c : Dev Cert.KernelIdeal.nD) → Buf (Elt Ideal) ((c.tc : Thread Cert.KernelIdeal.nD Cert.KernelIdeal.τ).loc Cert.KernelIdeal.main_v46)) (v8 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_v43) = v4 c
          ∧ r.2.mem ((c.tc : Thread Cert.KernelIdeal.nD Cert.KernelIdeal.τ).loc Cert.KernelIdeal.main_v44) = v5 c
          ∧ r.2.mem ((c.tc : Thread Cert.KernelIdeal.nD Cert.KernelIdeal.τ).loc Cert.KernelIdeal.main_v45) = v6 c
          ∧ r.2.mem ((c.tc : Thread Cert.KernelIdeal.nD Cert.KernelIdeal.τ).loc Cert.KernelIdeal.main_v46) = v7 c
          ∧ r.2.mem ((c.tc : Thread Cert.KernelIdeal.nD Cert.KernelIdeal.τ).loc Cert.KernelIdeal.main_v47) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_indices_4) = v4 c
          ∧ r.2.mem ((c.tc : Thread Cert.ReferenceIdeal.nD Cert.ReferenceIdeal.τ).loc Cert.ReferenceIdeal.main_v52) = v5 c
          ∧ r.2.mem ((c.tc : Thread Cert.ReferenceIdeal.nD Cert.ReferenceIdeal.τ).loc Cert.ReferenceIdeal.main_indices_10) = v6 c
          ∧ r.2.mem ((c.tc : Thread Cert.ReferenceIdeal.nD Cert.ReferenceIdeal.τ).loc Cert.ReferenceIdeal.main_v95) = v7 c
          ∧ r.2.mem ((c.tc : Thread Cert.ReferenceIdeal.nD Cert.ReferenceIdeal.τ).loc Cert.ReferenceIdeal.main_indices_20) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x768 : Shape := ⟨3, ![1, 2048, 768]⟩
abbrev S8x768x384 : Shape := ⟨3, ![8, 768, 384]⟩
abbrev S8x384x768 : Shape := ⟨3, ![8, 384, 768]⟩
abbrev S8x768 : Shape := ⟨2, ![8, 768]⟩
abbrev S8x384 : Shape := ⟨2, ![8, 384]⟩
abbrev S_ : Shape := ⟨0, ![]⟩

class Facts : Prop where
  bcast_S_S1x2048x768 : S_.BroadcastsInDim S1x2048x768 (![] : Fin 0 → Fin S1x2048x768.rank)
  bcast_S_S8x768x384 : S_.BroadcastsInDim S8x768x384 (![] : Fin 0 → Fin S8x768x384.rank)
  bcast_S_S8x768 : S_.BroadcastsInDim S8x768 (![] : Fin 0 → Fin S8x768.rank)
  bcast_S_S8x384 : S_.BroadcastsInDim S8x384 (![] : Fin 0 → Fin S8x384.rank)

variable [Facts]

def fn {F : FTy → Type} [FloatOps F] (main_arg0 : FVec F S1x2048x768 .f32) (main_arg1 : FVec F S8x768x384 .f32) (main_arg2 : FVec F S8x384x768 .f32) (main_arg3 : FVec F S8x768 .f32) (main_arg4 : FVec F S8x768 .f32) (main_arg5 : FVec F S8x768 .f32) (main_arg6 : FVec F S8x384 .f32) : IVec S1x2048x768 1 × IVec S8x768x384 1 × IVec S8x768 1 × IVec S8x768 1 × IVec S8x768 1 × IVec S8x384 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S8x768x384 .f32 := Host.absf main_arg1
  let main_cst_0 : FVec F S_ .f32 := constant S_ .f32 0x7F800000#32
  let main_v4 : FVec F S8x768x384 .f32 := broadcastInDim S8x768x384 ![] bcast_S_S8x768x384 main_cst_0
  let main_v5 : IVec S8x768x384 1 := cmpf .olt main_v3 main_v4
  let main_v6 : FVec F S8x768 .f32 := Host.absf main_arg3
  let main_cst_1 : FVec F S_ .f32 := constant S_ .f32 0x7F800000#32
  let main_v7 : FVec F S8x768 .f32 := broadcastInDim S8x768 ![] bcast_S_S8x768 main_cst_1
  let main_v8 : IVec S8x768 1 := cmpf .olt main_v6 main_v7
  let main_v9 : FVec F S8x768 .f32 := Host.absf main_arg4
  let main_cst_2 : FVec F S_ .f32 := constant S_ .f32 0x7F800000#32
  let main_v10 : FVec F S8x768 .f32 := broadcastInDim S8x768 ![] bcast_S_S8x768 main_cst_2
  let main_v11 : IVec S8x768 1 := cmpf .olt main_v9 main_v10
  let main_v12 : FVec F S8x768 .f32 := Host.absf main_arg5
  let main_cst_3 : FVec F S_ .f32 := constant S_ .f32 0x7F800000#32
  let main_v13 : FVec F S8x768 .f32 := broadcastInDim S8x768 ![] bcast_S_S8x768 main_cst_3
  let main_v14 : IVec S8x768 1 := cmpf .olt main_v12 main_v13
  let main_v15 : FVec F S8x384 .f32 := Host.absf main_arg6
  let main_cst_4 : FVec F S_ .f32 := constant S_ .f32 0x7F800000#32
  let main_v16 : FVec F S8x384 .f32 := broadcastInDim S8x384 ![] bcast_S_S8x384 main_cst_4
  let main_v17 : IVec S8x384 1 := cmpf .olt main_v15 main_v16
  (main_v2, main_v5, main_v8, main_v11, main_v14, main_v17)
-- ==== Kernel.lean ====
abbrev S1x2048x768 : Shape := ⟨3, ![1, 2048, 768]⟩
abbrev S8x768x384 : Shape := ⟨3, ![8, 768, 384]⟩
abbrev S8x384x768 : Shape := ⟨3, ![8, 384, 768]⟩
abbrev S8x768 : Shape := ⟨2, ![8, 768]⟩
abbrev S8x384 : Shape := ⟨2, ![8, 384]⟩
abbrev S768x8 : Shape := ⟨2, ![768, 8]⟩
abbrev S1x2048x8 : Shape := ⟨3, ![1, 2048, 8]⟩
abbrev S2048x8 : Shape := ⟨2, ![2048, 8]⟩
abbrev S2048x768 : Shape := ⟨2, ![2048, 768]⟩
abbrev S2048x384 : Shape := ⟨2, ![2048, 384]⟩
abbrev S2048x2 : Shape := ⟨2, ![2048, 2]⟩
abbrev S512x768 : Shape := ⟨2, ![512, 768]⟩
abbrev S512x8 : Shape := ⟨2, ![512, 8]⟩
abbrev S512x384 : Shape := ⟨2, ![512, 384]⟩
abbrev S512x2 : Shape := ⟨2, ![512, 2]⟩
abbrev S512 : Shape := ⟨1, ![512]⟩
abbrev S512x1 : Shape := ⟨2, ![512, 1]⟩
abbrev S1x768x384 : Shape := ⟨3, ![1, 768, 384]⟩
abbrev S768x384 : Shape := ⟨2, ![768, 384]⟩
abbrev S1x2048x12x32 : Shape := ⟨4, ![1, 2048, 12, 32]⟩
abbrev S1x12x2048x32 : Shape := ⟨4, ![1, 12, 2048, 32]⟩
abbrev S1x12x2048x2048 : Shape := ⟨4, ![1, 12, 2048, 2048]⟩
abbrev S_ : Shape := ⟨0, ![]⟩
abbrev S1x12x2048 : Shape := ⟨3, ![1, 12, 2048]⟩
abbrev S1x12x2048x1 : Shape := ⟨4, ![1, 12, 2048, 1]⟩
abbrev S1x2048x384 : Shape := ⟨3, ![1, 2048, 384]⟩
abbrev S384x8 : Shape := ⟨2, ![384, 8]⟩
abbrev S1x384x768 : Shape := ⟨3, ![1, 384, 768]⟩
abbrev S384x768 : Shape := ⟨2, ![384, 768]⟩
abbrev S1x2048x2 : Shape := ⟨3, ![1, 2048, 2]⟩

abbrev nBuf : Space → Nat
  | .hbm => 69
  | .vmem => 38
  | .smem => 0
  | _ => 0

abbrev bufTy : (tb : Table) → Fin (tcTables nBuf tb) → BufTy
  | .hbm, ⟨0, _⟩ => ⟨S1x2048x768, .f32⟩
  | .hbm, ⟨1, _⟩ => ⟨S8x768x384, .f32⟩
  | .hbm, ⟨2, _⟩ => ⟨S8x384x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x384, .f32⟩
  | .hbm, ⟨7, _⟩ => ⟨S768x8, .f32⟩
  | .hbm, ⟨8, _⟩ => ⟨S1x2048x8, .f32⟩
  | .hbm, ⟨9, _⟩ => ⟨S2048x8, .f32⟩
  | .hbm, ⟨10, _⟩ => ⟨S768x8, .f32⟩
  | .hbm, ⟨11, _⟩ => ⟨S1x2048x8, .f32⟩
  | .hbm, ⟨12, _⟩ => ⟨S2048x8, .f32⟩
  | .hbm, ⟨13, _⟩ => ⟨S768x8, .f32⟩
  | .hbm, ⟨14, _⟩ => ⟨S1x2048x8, .f32⟩
  | .hbm, ⟨15, _⟩ => ⟨S2048x8, .f32⟩
  | .hbm, ⟨16, _⟩ => ⟨S2048x768, .f32⟩
  | .hbm, ⟨17, _⟩ => ⟨S2048x384, .f32⟩
  | .hbm, ⟨18, _⟩ => ⟨S2048x384, .f32⟩
  | .hbm, ⟨19, _⟩ => ⟨S2048x384, .f32⟩
  | .hbm, ⟨20, _⟩ => ⟨S2048x2, .f32⟩
  | .hbm, ⟨21, _⟩ => ⟨S2048x2, .i32⟩
  | .hbm, ⟨22, _⟩ => ⟨S2048x2, .f32⟩
  | .hbm, ⟨23, _⟩ => ⟨S2048x2, .i32⟩
  | .hbm, ⟨24, _⟩ => ⟨S2048x2, .f32⟩
  | .hbm, ⟨25, _⟩ => ⟨S2048x2, .i32⟩
  | .hbm, ⟨26, _⟩ => ⟨S1x2048x12x32, .f32⟩
  | .hbm, ⟨27, _⟩ => ⟨S1x12x2048x32, .f32⟩
  | .hbm, ⟨28, _⟩ => ⟨S1x2048x12x32, .f32⟩
  | .hbm, ⟨29, _⟩ => ⟨S1x12x2048x32, .f32⟩
  | .hbm, ⟨30, _⟩ => ⟨S1x2048x12x32, .f32⟩
  | .hbm, ⟨31, _⟩ => ⟨S1x12x2048x32, .f32⟩
  | .hbm, ⟨32, _⟩ => ⟨S1x12x2048x2048, .f32⟩
  | .hbm, ⟨33, _⟩ => ⟨S_, .f32⟩
  | .hbm, ⟨34, _⟩ => ⟨S1x12x2048x2048, .f32⟩
  | .hbm, ⟨35, _⟩ => ⟨S1x12x2048x2048, .f32⟩
  | .hbm, ⟨36, _⟩ => ⟨S_, .f32⟩
  | .hbm, ⟨37, _⟩ => ⟨S1x12x2048, .f32⟩
  | .hbm, ⟨38, _⟩ => ⟨S_, .f32⟩
  | .hbm, ⟨39, _⟩ => ⟨S1x12x2048, .f32⟩
  | .hbm, ⟨40, _⟩ => ⟨S1x12x2048, .f32⟩
  | .hbm, ⟨41, _⟩ => ⟨S1x12x2048x1, .f32⟩
  | .hbm, ⟨42, _⟩ => ⟨S1x12x2048x2048, .f32⟩
  | .hbm, ⟨43, _⟩ => ⟨S1x12x2048x2048, .f32⟩
  | .hbm, ⟨44, _⟩ => ⟨S1x12x2048x2048, .f32⟩
  | .hbm, ⟨45, _⟩ => ⟨S_, .f32⟩
  | .hbm, ⟨46, _⟩ => ⟨S1x12x2048, .f32⟩
  | .hbm, ⟨47, _⟩ => ⟨S1x12x2048x1, .f32⟩
  | .hbm, ⟨48, _⟩ => ⟨S1x12x2048x2048, .f32⟩
  | .hbm, ⟨49, _⟩ => ⟨S1x12x2048x2048, .f32⟩
  | .hbm, ⟨50, _⟩ => ⟨S1x12x2048x32, .f32⟩
  | .hbm, ⟨51, _⟩ => ⟨S1x2048x12x32, .f32⟩
  | .hbm, ⟨52, _⟩ => ⟨S2048x384, .f32⟩
  | .hbm, ⟨53, _⟩ => ⟨S1x2048x384, .f32⟩
  | .hbm, ⟨54, _⟩ => ⟨S384x8, .f32⟩
  | .hbm, ⟨55, _⟩ => ⟨S1x2048x8, .f32⟩
  | .hbm, ⟨56, _⟩ => ⟨S2048x8, .f32⟩
  | .hbm, ⟨57, _⟩ => ⟨S2048x768, .f32⟩
  | .hbm, ⟨58, _⟩ => ⟨S2048x2, .f32⟩
  | .hbm, ⟨59, _⟩ => ⟨S2048x2, .i32⟩
  | .hbm, ⟨60, _⟩ => ⟨S1x2048x768, .f32⟩
  | .hbm, ⟨61, _⟩ => ⟨S1x2048x2, .f32⟩
  | .hbm, ⟨62, _⟩ => ⟨S1x2048x2, .i32⟩
  | .hbm, ⟨63, _⟩ => ⟨S1x2048x2, .f32⟩
  | .hbm, ⟨64, _⟩ => ⟨S1x2048x2, .i32⟩
  | .hbm, ⟨65, _⟩ => ⟨S1x2048x2, .f32⟩
  | .hbm, ⟨66, _⟩ => ⟨S1x2048x2, .i32⟩
  | .hbm, ⟨67, _⟩ => ⟨S1x2048x2, .f32⟩
  | .hbm, ⟨68, _⟩ => ⟨S1x2048x2, .i32⟩
  | .local _ .vmem, ⟨0, _⟩ => ⟨S512x768, .f32⟩
  | .local _ .vmem, ⟨1, _⟩ => ⟨S512x768, .f32⟩
  | .local _ .vmem, ⟨2, _⟩ => ⟨S512x8, .f32⟩
  | .local _ .vmem, ⟨3, _⟩ => ⟨S512x8, .f32⟩
  | .local _ .vmem, ⟨4, _⟩ => ⟨S512x8, .f32⟩
  | .local _ .vmem, ⟨5, _⟩ => ⟨S512x8, .f32⟩
  | .local _ .vmem, ⟨6, _⟩ => ⟨S512x8, .f32⟩
  | .local _ .vmem, ⟨7, _⟩ => ⟨S512x8, .f32⟩
  | .local _ .vmem, ⟨8, _⟩ => ⟨S8x768x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x2, .f32⟩
  | .local _ .vmem, ⟨16, _⟩ => ⟨S512x2, .f32⟩
  | .local _ .vmem, ⟨17, _⟩ => ⟨S512x2, .i32⟩
  | .local _ .vmem, ⟨18, _⟩ => ⟨S512x2, .i32⟩
  | .local _ .vmem, ⟨19, _⟩ => ⟨S512x2, .f32⟩
  | .local _ .vmem, ⟨20, _⟩ => ⟨S512x2, .f32⟩
  | .local _ .vmem, ⟨21, _⟩ => ⟨S512x2, .i32⟩
  | .local _ .vmem, ⟨22, _⟩ => ⟨S512x2, .i32⟩
  | .local _ .vmem, ⟨23, _⟩ => ⟨S512x2, .f32⟩
  | .local _ .vmem, ⟨24, _⟩ => ⟨S512x2, .f32⟩
  | .local _ .vmem, ⟨25, _⟩ => ⟨S512x2, .i32⟩
  | .local _ .vmem, ⟨26, _⟩ => ⟨S512x2, .i32⟩
  | .local _ .vmem, ⟨27, _⟩ => ⟨S512x384, .f32⟩
  | .local _ .vmem, ⟨28, _⟩ => ⟨S512x384, .f32⟩
  | .local _ .vmem, ⟨29, _⟩ => ⟨S512x8, .f32⟩
  | .local _ .vmem, ⟨30, _⟩ => ⟨S512x8, .f32⟩
  | .local _ .vmem, ⟨31, _⟩ => ⟨S8x384x768, .f32⟩
  | .local _ .vmem, ⟨32, _⟩ => ⟨S512x768, .f32⟩
  | .local _ .vmem, ⟨33, _⟩ => ⟨S512x768, .f32⟩
  | .local _ .vmem, ⟨34, _⟩ => ⟨S512x2, .f32⟩
  | .local _ .vmem, ⟨35, _⟩ => ⟨S512x2, .f32⟩
  | .local _ .vmem, ⟨36, _⟩ => ⟨S512x2, .i32⟩
  | .local _ .vmem, ⟨37, _⟩ => ⟨S512x2, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev main_v10_7 : Ref sig .tc := ⟨.hbm, 24, rfl⟩
abbrev main_v10_8 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v38_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x768x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x384x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1x2048x768 : Shape := ⟨3, ![1, 2048, 768]⟩
abbrev S8x768x384 : Shape := ⟨3, ![8, 768, 384]⟩
abbrev S8x384x768 : Shape := ⟨3, ![8, 384, 768]⟩
abbrev S8x768 : Shape := ⟨2, ![8, 768]⟩
abbrev S8x384 : Shape := ⟨2, ![8, 384]⟩
abbrev S768x8 : Shape := ⟨2, ![768, 8]⟩
abbrev S1x2048x8 : Shape := ⟨3, ![1, 2048, 8]⟩
abbrev S1x2048x2 : Shape := ⟨3, ![1, 2048, 2]⟩
abbrev S_ : Shape := ⟨0, ![]⟩
abbrev S1x2048 : Shape := ⟨2, ![1, 2048]⟩
abbrev S1x2048x1 : Shape := ⟨3, ![1, 2048, 1]⟩
abbrev S1x2048x8x384 : Shape := ⟨4, ![1, 2048, 8, 384]⟩
abbrev S1x2048x2x1 : Shape := ⟨4, ![1, 2048, 2, 1]⟩
abbrev S2048x2x1 : Shape := ⟨3, ![2048, 2, 1]⟩
abbrev S1 : Shape := ⟨1, ![1]⟩
abbrev S1x1x1 : Shape := ⟨3, ![1, 1, 1]⟩
abbrev S2048x2 : Shape := ⟨2, ![2048, 2]⟩
abbrev S1x2048x2x384 : Shape := ⟨4, ![1, 2048, 2, 384]⟩
abbrev S1x2048x384 : Shape := ⟨3, ![1, 2048, 384]⟩
abbrev S1x2048x12x32 : Shape := ⟨4, ![1, 2048, 12, 32]⟩
abbrev S1x12x2048x32 : Shape := ⟨4, ![1, 12, 2048, 32]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩
abbrev S384x8 : Shape := ⟨2, ![384, 8]⟩
abbrev S1x2048x8x768 : Shape := ⟨4, ![1, 2048, 8, 768]⟩
abbrev S1x2048x2x768 : Shape := ⟨4, ![1, 2048, 2, 768]⟩

abbrev nBuf : Space → Nat
  | .hbm => 226
  | .vmem => 0
  | .smem => 0
  | _ => 0

abbrev hbmTy0_0 (i : Nat) : BufTy := match i % 128 with
  | 0 => ⟨S1x2048x768, .f32⟩
  | 1 => ⟨S8x768x384, .f32⟩
  | 2 => ⟨S8x384x768, .f32⟩
  | 3 => ⟨S8x768, .f32⟩
  | 4 => ⟨S8x768, .f32⟩
  | 5 => ⟨S8x768, .f32⟩
  | 6 => ⟨S8x384, .f32⟩
  | 7 => ⟨S768x8, .f32⟩
  | 8 => ⟨S1x2048x8, .f32⟩
  | 9 => ⟨S1x2048x2, .f32⟩
  | 10 => ⟨S1x2048x2, .i32⟩
  | 11 => ⟨S_, .f32⟩
  | 12 => ⟨S1x2048, .f32⟩
  | 13 => ⟨S_, .f32⟩
  | 14 => ⟨S1x2048, .f32⟩
  | 15 => ⟨S1x2048, .f32⟩
  | 16 => ⟨S1x2048x1, .f32⟩
  | 17 => ⟨S1x2048x2, .f32⟩
  | 18 => ⟨S1x2048x2, .f32⟩
  | 19 => ⟨S1x2048x2, .f32⟩
  | 20 => ⟨S_, .f32⟩
  | 21 => ⟨S1x2048, .f32⟩
  | 22 => ⟨S1x2048x1, .f32⟩
  | 23 => ⟨S1x2048x2, .f32⟩
  | 24 => ⟨S1x2048x2, .f32⟩
  | 25 => ⟨S1x2048x8x384, .f32⟩
  | 26 => ⟨S1x2048x2x1, .i32⟩
  | 27 => ⟨S_, .i32⟩
  | 28 => ⟨S1x2048x2x1, .i32⟩
  | 29 => ⟨S1x2048x2x1, .i1⟩
  | 30 => ⟨S_, .i32⟩
  | 31 => ⟨S1x2048x2x1, .i32⟩
  | 32 => ⟨S1x2048x2x1, .i32⟩
  | 33 => ⟨S1x2048x2x1, .i32⟩
  | 34 => ⟨S2048x2x1, .i32⟩
  | 35 => ⟨S1, .i32⟩
  | 36 => ⟨S_, .i32⟩
  | 37 => ⟨S2048x2x1, .i32⟩
  | 38 => ⟨S2048x2x1, .i1⟩
  | 39 => ⟨S1x1x1, .i32⟩
  | 40 => ⟨S2048x2x1, .i32⟩
  | 41 => ⟨S2048x2x1, .i1⟩
  | 42 => ⟨S2048x2x1, .i1⟩
  | 43 => ⟨S_, .i1⟩
  | 44 => ⟨S2048x2, .i1⟩
  | 45 => ⟨S1x2048x2x384, .f32⟩
  | 46 => ⟨S1x2048x2x384, .i1⟩
  | 47 => ⟨S_, .f32⟩
  | 48 => ⟨S1x2048x2x384, .f32⟩
  | 49 => ⟨S1x2048x2x384, .f32⟩
  | 50 => ⟨S1x2048x2x1, .f32⟩
  | 51 => ⟨S1x2048x2x384, .f32⟩
  | 52 => ⟨S1x2048x2x384, .f32⟩
  | 53 => ⟨S_, .f32⟩
  | 54 => ⟨S1x2048x384, .f32⟩
  | 55 => ⟨S768x8, .f32⟩
  | 56 => ⟨S1x2048x8, .f32⟩
  | 57 => ⟨S1x2048x2, .f32⟩
  | 58 => ⟨S1x2048x2, .i32⟩
  | 59 => ⟨S_, .f32⟩
  | 60 => ⟨S1x2048, .f32⟩
  | 61 => ⟨S_, .f32⟩
  | 62 => ⟨S1x2048, .f32⟩
  | 63 => ⟨S1x2048, .f32⟩
  | 64 => ⟨S1x2048x1, .f32⟩
  | 65 => ⟨S1x2048x2, .f32⟩
  | 66 => ⟨S1x2048x2, .f32⟩
  | 67 => ⟨S1x2048x2, .f32⟩
  | 68 => ⟨S_, .f32⟩
  | 69 => ⟨S1x2048, .f32⟩
  | 70 => ⟨S1x2048x1, .f32⟩
  | 71 => ⟨S1x2048x2, .f32⟩
  | 72 => ⟨S1x2048x2, .f32⟩
  | 73 => ⟨S1x2048x8x384, .f32⟩
  | 74 => ⟨S1x2048x2x1, .i32⟩
  | 75 => ⟨S_, .i32⟩
  | 76 => ⟨S1x2048x2x1, .i32⟩
  | 77 => ⟨S1x2048x2x1, .i1⟩
  | 78 => ⟨S_, .i32⟩
  | 79 => ⟨S1x2048x2x1, .i32⟩
  | 80 => ⟨S1x2048x2x1, .i32⟩
  | 81 => ⟨S1x2048x2x1, .i32⟩
  | 82 => ⟨S2048x2x1, .i32⟩
  | 83 => ⟨S1, .i32⟩
  | 84 => ⟨S_, .i32⟩
  | 85 => ⟨S2048x2x1, .i32⟩
  | 86 => ⟨S2048x2x1, .i1⟩
  | 87 => ⟨S1x1x1, .i32⟩
  | 88 => ⟨S2048x2x1, .i32⟩
  | 89 => ⟨S2048x2x1, .i1⟩
  | 90 => ⟨S2048x2x1, .i1⟩
  | 91 => ⟨S_, .i1⟩
  | 92 => ⟨S2048x2, .i1⟩
  | 93 => ⟨S1x2048x2x384, .f32⟩
  | 94 => ⟨S1x2048x2x384, .i1⟩
  | 95 => ⟨S_, .f32⟩
  | 96 => ⟨S1x2048x2x384, .f32⟩
  | 97 => ⟨S1x2048x2x384, .f32⟩
  | 98 => ⟨S1x2048x2x1, .f32⟩
  | 99 => ⟨S1x2048x2x384, .f32⟩
  | 100 => ⟨S1x2048x2x384, .f32⟩
  | 101 => ⟨S_, .f32⟩
  | 102 => ⟨S1x2048x384, .f32⟩
  | 103 => ⟨S768x8, .f32⟩
  | 104 => ⟨S1x2048x8, .f32⟩
  | 105 => ⟨S1x2048x2, .f32⟩
  | 106 => ⟨S1x2048x2, .i32⟩
  | 107 => ⟨S_, .f32⟩
  | 108 => ⟨S1x2048, .f32⟩
  | 109 => ⟨S_, .f32⟩
  | 110 => ⟨S1x2048, .f32⟩
  | 111 => ⟨S1x2048, .f32⟩
  | 112 => ⟨S1x2048x1, .f32⟩
  | 113 => ⟨S1x2048x2, .f32⟩
  | 114 => ⟨S1x2048x2, .f32⟩
  | 115 => ⟨S1x2048x2, .f32⟩
  | 116 => ⟨S_, .f32⟩
  | 117 => ⟨S1x2048, .f32⟩
  | 118 => ⟨S1x2048x1, .f32⟩
  | 119 => ⟨S1x2048x2, .f32⟩
  | 120 => ⟨S1x2048x2, .f32⟩
  | 121 => ⟨S1x2048x8x384, .f32⟩
  | 122 => ⟨S1x2048x2x1, .i32⟩
  | 123 => ⟨S_, .i32⟩
  | 124 => ⟨S1x2048x2x1, .i32⟩
  | 125 => ⟨S1x2048x2x1, .i1⟩
  | 126 => ⟨S_, .i32⟩
  | 127 => ⟨S1x2048x2x1, .i32⟩
  | _ => ⟨S1x2048x768, .f32⟩

abbrev hbmTy0_1 (i : Nat) : BufTy := match i % 128 with
  | 0 => ⟨S1x2048x2x1, .i32⟩
  | 1 => ⟨S1x2048x2x1, .i32⟩
  | 2 => ⟨S2048x2x1, .i32⟩
  | 3 => ⟨S1, .i32⟩
  | 4 => ⟨S_, .i32⟩
  | 5 => ⟨S2048x2x1, .i32⟩
  | 6 => ⟨S2048x2x1, .i1⟩
  | 7 => ⟨S1x1x1, .i32⟩
  | 8 => ⟨S2048x2x1, .i32⟩
  | 9 => ⟨S2048x2x1, .i1⟩
  | 10 => ⟨S2048x2x1, .i1⟩
  | 11 => ⟨S_, .i1⟩
  | 12 => ⟨S2048x2, .i1⟩
  | 13 => ⟨S1x2048x2x384, .f32⟩
  | 14 => ⟨S1x2048x2x384, .i1⟩
  | 15 => ⟨S_, .f32⟩
  | 16 => ⟨S1x2048x2x384, .f32⟩
  | 17 => ⟨S1x2048x2x384, .f32⟩
  | 18 => ⟨S1x2048x2x1, .f32⟩
  | 19 => ⟨S1x2048x2x384, .f32⟩
  | 20 => ⟨S1x2048x2x384, .f32⟩
  | 21 => ⟨S_, .f32⟩
  | 22 => ⟨S1x2048x384, .f32⟩
  | 23 => ⟨S1x2048x12x32, .f32⟩
  | 24 => ⟨S1x12x2048x32, .f32⟩
  | 25 => ⟨S1x2048x12x32, .f32⟩
  | 26 => ⟨S1x12x2048x32, .f32⟩
  | 27 => ⟨S1x2048x12x32, .f32⟩
  | 28 => ⟨S1x12x2048x32, .f32⟩
  | 29 => ⟨S1x12x2048x2048, .f32⟩
  | 30 => ⟨S_, .f32⟩
  | 31 => ⟨S1x12x2048x2048, .f32⟩
  | 32 => ⟨S1x12x2048x2048, .f32⟩
  | 33 => ⟨S_, .f32⟩
  | 34 => ⟨S1x12x2048, .f32⟩
  | 35 => ⟨S_, .f32⟩
  | 36 => ⟨S1x12x2048, .f32⟩
  | 37 => ⟨S1x12x2048, .f32⟩
  | 38 => ⟨S1x12x2048x1, .f32⟩
  | 39 => ⟨S1x12x2048x2048, .f32⟩
  | 40 => ⟨S1x12x2048x2048, .f32⟩
  | 41 => ⟨S1x12x2048x2048, .f32⟩
  | 42 => ⟨S_, .f32⟩
  | 43 => ⟨S1x12x2048, .f32⟩
  | 44 => ⟨S1x12x2048x1, .f32⟩
  | 45 => ⟨S1x12x2048x2048, .f32⟩
  | 46 => ⟨S1x12x2048x2048, .f32⟩
  | 47 => ⟨S1x12x2048x32, .f32⟩
  | 48 => ⟨S1x2048x12x32, .f32⟩
  | 49 => ⟨S1x2048x384, .f32⟩
  | 50 => ⟨S384x8, .f32⟩
  | 51 => ⟨S1x2048x8, .f32⟩
  | 52 => ⟨S1x2048x2, .f32⟩
  | 53 => ⟨S1x2048x2, .i32⟩
  | 54 => ⟨S_, .f32⟩
  | 55 => ⟨S1x2048, .f32⟩
  | 56 => ⟨S_, .f32⟩
  | 57 => ⟨S1x2048, .f32⟩
  | 58 => ⟨S1x2048, .f32⟩
  | 59 => ⟨S1x2048x1, .f32⟩
  | 60 => ⟨S1x2048x2, .f32⟩
  | 61 => ⟨S1x2048x2, .f32⟩
  | 62 => ⟨S1x2048x2, .f32⟩
  | 63 => ⟨S_, .f32⟩
  | 64 => ⟨S1x2048, .f32⟩
  | 65 => ⟨S1x2048x1, .f32⟩
  | 66 => ⟨S1x2048x2, .f32⟩
  | 67 => ⟨S1x2048x2, .f32⟩
  | 68 => ⟨S1x2048x8x768, .f32⟩
  | 69 => ⟨S1x2048x2x1, .i32⟩
  | 70 => ⟨S_, .i32⟩
  | 71 => ⟨S1x2048x2x1, .i32⟩
  | 72 => ⟨S1x2048x2x1, .i1⟩
  | 73 => ⟨S_, .i32⟩
  | 74 => ⟨S1x2048x2x1, .i32⟩
  | 75 => ⟨S1x2048x2x1, .i32⟩
  | 76 => ⟨S1x2048x2x1, .i32⟩
  | 77 => ⟨S2048x2x1, .i32⟩
  | 78 => ⟨S1, .i32⟩
  | 79 => ⟨S_, .i32⟩
  | 80 => ⟨S2048x2x1, .i32⟩
  | 81 => ⟨S2048x2x1, .i1⟩
  | 82 => ⟨S1x1x1, .i32⟩
  | 83 => ⟨S2048x2x1, .i32⟩
  | 84 => ⟨S2048x2x1, .i1⟩
  | 85 => ⟨S2048x2x1, .i1⟩
  | 86 => ⟨S_, .i1⟩
  | 87 => ⟨S2048x2, .i1⟩
  | 88 => ⟨S1x2048x2x768, .f32⟩
  | 89 => ⟨S1x2048x2x768, .i1⟩
  | 90 => ⟨S_, .f32⟩
  | 91 => ⟨S1x2048x2x768, .f32⟩
  | 92 => ⟨S1x2048x2x768, .f32⟩
  | 93 => ⟨S1x2048x2x1, .f32⟩
  | 94 => ⟨S1x2048x2x768, .f32⟩
  | 95 => ⟨S1x2048x2x768, .f32⟩
  | 96 => ⟨S_, .f32⟩
  | 97 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_values_3 : Ref sig .tc := ⟨.hbm, 57, rfl⟩
abbrev main_indices_4 : Ref sig .tc := ⟨.hbm, 58, rfl⟩
abbrev main_cst_5 : Ref sig .tc := ⟨.hbm, 59, rfl⟩
abbrev main_v22 : Ref sig .tc := ⟨.hbm, 60, rfl⟩
abbrev main_cst_6 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_cst_8 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_values_9 : Ref sig .tc := ⟨.hbm, 105, rfl⟩
abbrev main_indices_10 : Ref sig .tc := ⟨.hbm, 106, rfl⟩
abbrev main_cst_11 : Ref sig .tc := ⟨.hbm, 107, rfl⟩
abbrev main_v42 : Ref sig .tc := ⟨.hbm, 108, rfl⟩
abbrev main_cst_12 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_13 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_call2_c : Ref sig .tc := ⟨.hbm, 123, rfl⟩
abbrev main_call2_v0 : Ref sig .tc := ⟨.hbm, 124, rfl⟩
abbrev main_call2_v1 : Ref sig .tc := ⟨.hbm, 125, rfl⟩
abbrev main_call2_c_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_c_1 : Ref sig .tc := ⟨.hbm, 131, rfl⟩
abbrev main_call2_c_2 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_3 : Ref sig .tc := ⟨.hbm, 139, rfl⟩
abbrev main_call2_v12 : Ref sig .tc := ⟨.hbm, 140, rfl⟩
abbrev main_call2_v13 : Ref sig .tc := ⟨.hbm, 141, rfl⟩
abbrev main_call2_v14 : Ref sig .tc := ⟨.hbm, 142, rfl⟩
abbrev main_call2_cst : Ref sig .tc := ⟨.hbm, 143, rfl⟩
abbrev main_call2_v15 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_cst_14 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_cst_15 : Ref sig .tc := ⟨.hbm, 158, rfl⟩
abbrev main_v67 : Ref sig .tc := ⟨.hbm, 159, rfl⟩
abbrev main_v68 : Ref sig .tc := ⟨.hbm, 160, rfl⟩
abbrev main_cst_16 : Ref sig .tc := ⟨.hbm, 161, rfl⟩
abbrev main_v69 : Ref sig .tc := ⟨.hbm, 162, rfl⟩
abbrev main_cst_17 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_cst_18 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_values_19 : Ref sig .tc := ⟨.hbm, 180, rfl⟩
abbrev main_indices_20 : Ref sig .tc := ⟨.hbm, 181, rfl⟩
abbrev main_cst_21 : Ref sig .tc := ⟨.hbm, 182, rfl⟩
abbrev main_v85 : Ref sig .tc := ⟨.hbm, 183, rfl⟩
abbrev main_cst_22 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_cst_23 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_call3_c : Ref sig .tc := ⟨.hbm, 198, rfl⟩
abbrev main_call3_v0 : Ref sig .tc := ⟨.hbm, 199, rfl⟩
abbrev main_call3_v1 : Ref sig .tc := ⟨.hbm, 200, rfl⟩
abbrev main_call3_c_0 : Ref sig .tc := ⟨.hbm, 201, rfl⟩
abbrev main_call3_v2 : Ref sig .tc := ⟨.hbm, 202, rfl⟩
abbrev main_call3_v3 : Ref sig .tc := ⟨.hbm, 203, rfl⟩
abbrev main_call3_v4 : Ref sig .tc := ⟨.hbm, 204, rfl⟩
abbrev main_call3_v5 : Ref sig .tc := ⟨.hbm, 205, rfl⟩
abbrev main_call3_c_1 : Ref sig .tc := ⟨.hbm, 206, rfl⟩
abbrev main_call3_c_2 : Ref sig .tc := ⟨.hbm, 207, rfl⟩
abbrev main_call3_v6 : Ref sig .tc := ⟨.hbm, 208, rfl⟩
abbrev main_call3_v7 : Ref sig .tc := ⟨.hbm, 209, rfl⟩
abbrev main_call3_v8 : Ref sig .tc := ⟨.hbm, 210, rfl⟩
abbrev main_call3_v9 : Ref sig .tc := ⟨.hbm, 211, rfl⟩
abbrev main_call3_v10 : Ref sig .tc := ⟨.hbm, 212, rfl⟩
abbrev main_call3_v11 : Ref sig .tc := ⟨.hbm, 213, rfl⟩
abbrev main_call3_c_3 : Ref sig .tc := ⟨.hbm, 214, rfl⟩
abbrev main_call3_v12 : Ref sig .tc := ⟨.hbm, 215, rfl⟩
abbrev main_call3_v13 : Ref sig .tc := ⟨.hbm, 216, rfl⟩
abbrev main_call3_v14 : Ref sig .tc := ⟨.hbm, 217, rfl⟩
abbrev main_call3_cst : Ref sig .tc := ⟨.hbm, 218, rfl⟩
abbrev main_call3_v15 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_cst_24 : Ref sig .tc := ⟨.hbm, 224, rfl⟩
abbrev main_v102 : Ref sig .tc := ⟨.hbm, 225, rfl⟩

abbrev nD : Nat := 1
abbrev τ : Topo := Topo.v7x

variable {F : FTy → Type} [FloatOps F]
-- ==== Proof.TopTwo.lean ====
/-
  THE TWO GREATEST OF A ROW OF EIGHT. `TopTwo f a b` says that `a` is the first position of the row's greatest entry and
  `b` the first position of the greatest among the others. Every row has such positions; the stable sort by the greater
  entry puts them first, and the fold forms a kernel computes them by (a maximum, the least position that attains it, the
  same after the first is replaced by the bottom) give them back.
-/
module

public import Idealize.ShloMosaic.Lib.SortPrefix
public import Idealize.ShloMosaic.Lib.Pointwise

@[expose] public section

noncomputable section

open Idealize.ShloMosaic

namespace Cert.Route

/-- `a` is the first position of the greatest entry of `f`, `b` the first position of the greatest of the others. -/
structure TopTwo {n : Nat} (f : Fin n → EReal) (a b : Fin n) : Prop where
  ne : a ≠ b
  fst : ∀ p, f p < f a ∨ (f p = f a ∧ a ≤ p)
  snd : ∀ p, p ≠ a → f p < f b ∨ (f p = f b ∧ b ≤ p)

/-- Among the positions of a nonempty set there is a first one of the greatest entry. -/
theorem exists_first {n : Nat} (f : Fin n → EReal) (s : Finset (Fin n)) (hs : s.Nonempty) :
    ∃ a ∈ s, ∀ p ∈ s, f p < f a ∨ (f p = f a ∧ a ≤ p) := by
  obtain ⟨m, hm, hmax⟩ := s.exists_max_image f hs
  have hne : (s.filter fun p => f p = f m).Nonempty := ⟨m, Finset.mem_filter.2 ⟨hm, rfl⟩⟩
  obtain ⟨a, ha, hmin⟩ := (s.filter fun p => f p = f m).exists_min_image id hne
  obtain ⟨has, hfa⟩ := Finset.mem_filter.1 ha
  refine ⟨a, has, fun p hp => ?_⟩
  rcases lt_or_eq_of_le (hmax p hp) with h | h
  · exact .inl (hfa ▸ h)
  · exact .inr ⟨h.trans hfa.symm, hmin p (Finset.mem_filter.2 ⟨hp, h⟩)⟩

/-- Every row of eight has its two positions. -/
theorem exists_topTwo (f : Fin 8 → EReal) : ∃ a b, TopTwo f a b := by
  obtain ⟨a, -, ha⟩ := exists_first f Finset.univ ⟨0, Finset.mem_univ _⟩
  have hne : (Finset.univ.erase a : Finset (Fin 8)).Nonempty := by
    rw [← Finset.card_pos, Finset.card_erase_of_mem (Finset.mem_univ _)]; decide
  obtain ⟨b, hb, hb'⟩ := exists_first f _ hne
  exact ⟨a, b, (Finset.ne_of_mem_erase hb).symm, fun p => ha p (Finset.mem_univ _),
    fun p hp => hb' p (Finset.mem_erase.2 ⟨hp, Finset.mem_univ _⟩)⟩

/-- A stable sort compares only a position with later ones: a relation may be refined by the position. -/
theorem stableSort_refine {n : Nat} (R R' : Fin n → Fin n → Bool) (h : ∀ a b : Fin n, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The stable sort of a row of eight by the greater entry puts `a` first and `b` second. -/
theorem TopTwo.sortedFrom {f : Fin 8 → EReal} {a b : Fin 8} (h : TopTwo f a b) (R : Fin 8 → Fin 8 → Bool)
    (hR : ∀ k k', R k k' = decide (f k' < f k)) :
    Idealize.ShloMosaic.sortedFrom R 0 = a ∧ Idealize.ShloMosaic.sortedFrom R 1 = b := by
  classical
  set B : Fin 8 → Fin 8 → Bool := fun k k' => decide (f k' < f k) || (decide (f k = f k') && decide (k < k')) with hBdef
  have hB : StrictTotalBefore B := StrictTotalBefore.of_key_then_position (fun x y : EReal => decide (y < x)) f
    (fun x => by simp) (fun x y z hxy hyz => by simp only [decide_eq_true_eq] at *; exact lt_trans hyz hxy)
    (fun x y => by
      simp only [decide_eq_true_eq]
      rcases lt_trichotomy x y with h | h | h
      · exact .inr (.inr h)
      · exact .inr (.inl h)
      · exact .inl h)
  have hRB : Idealize.ShloMosaic.sortedFrom R = Idealize.ShloMosaic.sortedFrom B := by
    have : sortPositions 8 R = sortPositions 8 B := by
      unfold sortPositions
      refine stableSort_refine R B (fun x y hxy => ?_) _ (List.pairwise_lt_finRange 8)
      rw [hR, hBdef]
      simp [not_lt_of_gt hxy]
    funext k
    unfold Idealize.ShloMosaic.sortedFrom
    rw [List.get_of_eq this]
    rfl
  have key := hB.sortedFrom_eq_of_prefix (k := 2) (by decide) ![a, b]
    (by
      intro i j hij
      fin_cases i <;> fin_cases j <;> simp_all [h.ne, h.ne.symm])
    (by
      intro i j hij
      have hi : i = 0 := by omega
      have hj : j = 1 := by omega
      subst hi hj
      have := h.fst b
      simp only [hBdef, Matrix.cons_val_zero, Matrix.cons_val_one]
      rcases this with h1 | ⟨h1, h2⟩
      · simp [not_lt_of_gt h1, h1.ne]
      · simp [h1, not_lt.2 h2])
    (by
      intro i p hp
      have hpa : p ≠ a := fun e => hp 0 e.symm
      fin_cases i
      · have := h.fst p
        simp only [hBdef]
        rcases this with h1 | ⟨h1, h2⟩
        · simp [not_lt_of_gt h1, h1.ne]
        · simp [h1, not_lt.2 h2]
      · have := h.snd p hpa
        simp only [hBdef]
        rcases this with h1 | ⟨h1, h2⟩
        · simp [not_lt_of_gt h1, h1.ne]
        · simp [h1, not_lt.2 h2])
  rw [hRB]
  exact ⟨key 0, key 1⟩

end Cert.Route
-- ==== Proof.RouteRow.lean ====
/-
  THE KERNEL'S ROUTING OF A ROW OF EIGHT SCORES. With `a` and `b` the positions of the row's two greatest scores, the
  second above -inf: the picked indices are `a` and `b`, the pair of weights is `1 / (1 + e)` and `e / (1 + e)` for `e` the
  exponential of their difference, and the eight lanes of the spread weights hold those two at `a` and `b` and zero elsewhere.
  The three compress routes and the expand route compute the same payloads.
-/
module

public import proofs.«01_k».proof.Proof.Gen.KernelIdeal.Frame
public import proofs.«01_k».proof.Proof.TopTwo

@[expose] public section

set_option maxRecDepth 16384

noncomputable section

open Idealize.ShloMosaic Idealize.ShloMosaic.TcCoe Idealize.SL.Sem

namespace Cert.Route

/-- The weight of the greater of two scores: one over one plus the exponential of their difference. -/
def wFst (u v : EReal) : EReal := Ideal.div 1 (1 + Ideal.exp (v - u))
/-- The weight of the smaller of two scores. -/
def wSnd (u v : EReal) : EReal := Ideal.div (Ideal.exp (v - u)) (1 + Ideal.exp (v - u))

/-- The word of negative infinity is the bottom. -/
theorem ofBits_bot : Ideal.ofBits .f32 0xFF800000#32 = ⊥ := by simp [Ideal.ofBits, Ideal.ieee]

/-- A maximum over eight entries that is attained. -/
theorem fold_max {n : Nat} (g : Fin n → EReal) (a : Fin n) (h : ∀ p, g p ≤ g a) : Finset.univ.fold max ⊥ g = g a :=
  le_antisymm (Finset.fold_max_le _ |>.2 ⟨bot_le, fun p _ => h p⟩) (Finset.le_fold_max _ |>.2 (.inr ⟨a, Finset.mem_univ _, le_rfl⟩))

/-- The least marked position of eight, computed on words, for every marking. -/
theorem fold_min_bool : ∀ (P : Fin 8 → Bool) (a : Fin 8), P a = true → (∀ k, P k = true → a ≤ k) →
    Finset.univ.fold IntOp.minsi 2147483647#32 (fun x : Fin 8 => bif P x then BitVec.ofNat 32 x.val else 8#32)
      = BitVec.ofNat 32 a.val := by
  decide +kernel

/-- The least position of eight where a property holds, computed on words. -/
theorem fold_min (P : Fin 8 → Prop) [DecidablePred P] (a : Fin 8) (ha : P a) (h : ∀ k, P k → a ≤ k) :
    Finset.univ.fold IntOp.minsi 2147483647#32 (fun x : Fin 8 => if P x then BitVec.ofNat 32 x.val else 8#32)
      = BitVec.ofNat 32 a.val := by
  have := fold_min_bool (fun k => decide (P k)) a (by simpa using ha) (fun k hk => h k (by simpa using hk))
  simpa [Bool.cond_decide] using this

/-- Two lane numbers below eight are equal words exactly when they are equal. -/
theorem cmpi_lane : ∀ n a : Fin 8, IntOp.cmpi .eq (BitVec.ofNat 32 n.val) (BitVec.ofNat 32 a.val) = if n = a then 1#1 else 0#1 := by
  decide

/-- A choice by lane. -/
theorem select_lane (n a : Fin 8) (x y : EReal) :
    Scalar.select (IntOp.cmpi .eq (BitVec.ofNat 32 n.val) (BitVec.ofNat 32 a.val)) x y = if n = a then x else y := by
  rw [cmpi_lane]
  by_cases h : n = a <;> simp [h, Scalar.select]

end Cert.Route

namespace Cert.KernelIdeal.Value

open Cert.KernelIdeal Cert.KernelIdeal.Gen Cert.Route

/-- The spread weights of the query route, from its scores. -/
def wFull (s : FVec Ideal S512x8 .f32) : FVec Ideal S512x8 .f32 :=
  k0_pay18 (F := Ideal) (k0_pay15 (F := Ideal) s) (k0_pay16 (F := Ideal) s) (Scalar.ofBits .f32 0x00000000#32) (k0_pay17 (F := Ideal) s)

variable (s : FVec Ideal S512x8 .f32) (r : Fin 512) {a b : Fin 8}

/-- The row's maximum. -/
theorem max_row (h : TopTwo (fun k => s (ix2 r k)) a b) : k0_pay4 (F := Ideal) s (ix2 r 0) = s (ix2 r a) := by
  pointwise [k0_pay4, k0_pay3]
  rw [ofBits_bot]
  exact fold_max (fun k => s (ix2 r k)) a fun p => (h.fst p).elim le_of_lt fun e => e.1.le

/-- The row's first pick. -/
theorem first_row (h : TopTwo (fun k => s (ix2 r k)) a b) : k0_pay5 (F := Ideal) s (ix2 r 0) = BitVec.ofNat 32 a.val := by
  pointwise [k0_pay5, k0_pay3]
  refine fold_min (fun x => s (ix2 r x) = k0_pay4 (F := Ideal) s (ix2 r 0)) a (max_row s r h).symm fun k hk => ?_
  rw [max_row s r h] at hk
  exact (h.fst k).elim (fun l => absurd hk l.ne) And.right

/-- The row with its first pick taken out. -/
theorem masked_row (h : TopTwo (fun k => s (ix2 r k)) a b) (j : Fin 8) :
    k0_pay6 (F := Ideal) s (ix2 r j) = if j = a then ⊥ else s (ix2 r j) := by
  pointwise [k0_pay6, k0_pay3]
  rw [first_row s r h, ofBits_bot, select_lane]

/-- The maximum of what is left. -/
theorem max_row2 (h : TopTwo (fun k => s (ix2 r k)) a b) : k0_pay7 (F := Ideal) s (ix2 r 0) = s (ix2 r b) := by
  pointwise [k0_pay7]
  rw [ofBits_bot]
  simp only [masked_row s r h]
  refine (fold_max _ b fun p => ?_).trans (if_neg h.ne.symm)
  rw [if_neg h.ne.symm]
  split
  · exact bot_le
  · next hp => exact (h.snd p hp).elim le_of_lt fun e => e.1.le

/-- The row's second pick. -/
theorem second_row (h : TopTwo (fun k => s (ix2 r k)) a b) (hb : s (ix2 r b) ≠ ⊥) :
    k0_pay8 (F := Ideal) s (ix2 r 0) = BitVec.ofNat 32 b.val := by
  pointwise [k0_pay8]
  simp only [masked_row s r h, max_row2 s r h]
  refine fold_min (fun x => (if x = a then ⊥ else s (ix2 r x)) = s (ix2 r b)) b (if_neg h.ne.symm) fun k hk => ?_
  by_cases hka : k = a
  · rw [if_pos hka] at hk; exact absurd hk.symm hb
  · rw [if_neg hka] at hk
    exact (h.snd k hka).elim (fun l => absurd hk l.ne) And.right

/-- The first weight. -/
theorem weight_fst (h : TopTwo (fun k => s (ix2 r k)) a b) :
    k0_pay11 (F := Ideal) s (ix2 r 0) = wFst (s (ix2 r a)) (s (ix2 r b)) := by
  pointwise [k0_pay11, k0_pay9, k0_pay10]
  rw [max_row s r h, max_row2 s r h]; rfl

/-- The second weight. -/
theorem weight_snd (h : TopTwo (fun k => s (ix2 r k)) a b) :
    k0_pay12 (F := Ideal) s (ix2 r 0) = wSnd (s (ix2 r a)) (s (ix2 r b)) := by
  pointwise [k0_pay12, k0_pay9, k0_pay10]
  rw [max_row s r h, max_row2 s r h]; rfl

/-- The pair of weights. -/
theorem pair_weights (h : TopTwo (fun k => s (ix2 r k)) a b) (j : Fin 2) :
    k0_pay13 (F := Ideal) s (ix2 r j) = if j = 0 then wFst (s (ix2 r a)) (s (ix2 r b)) else wSnd (s (ix2 r a)) (s (ix2 r b)) := by
  rw [← weight_fst s r h, ← weight_snd s r h]
  pointwise [k0_pay13]
  fin_cases j <;> rfl

/-- The pair of indices. -/
theorem pair_indices (h : TopTwo (fun k => s (ix2 r k)) a b) (hb : s (ix2 r b) ≠ ⊥) (j : Fin 2) :
    k0_pay14 (F := Ideal) s (ix2 r j) = if j = 0 then BitVec.ofNat 32 a.val else BitVec.ofNat 32 b.val := by
  rw [← first_row s r h, ← second_row s r h hb]
  pointwise [k0_pay14]
  fin_cases j <;> rfl

/-- The spread weights. -/
theorem wFull_row (h : TopTwo (fun k => s (ix2 r k)) a b) (hb : s (ix2 r b) ≠ ⊥) (n : Fin 8) :
    wFull s (ix2 r n) = (if n = a then wFst (s (ix2 r a)) (s (ix2 r b)) else 0)
      + (if n = b then wSnd (s (ix2 r a)) (s (ix2 r b)) else 0) := by
  pointwise [wFull, k0_pay18, k0_pay15, k0_pay16, k0_pay17]
  rw [first_row s r h, second_row s r h hb, select_lane, select_lane, weight_fst s r h, weight_snd s r h]

/-- A sum over eight weighted terms is the two picked ones. -/
theorem sum_picked (a b : Fin 8) (u v : EReal) (P : Fin 8 → EReal) (hab : a ≠ b) :
    ∑ n, ((if n = a then u else 0) + (if n = b then v else 0)) * P n = u * P a + v * P b := by
  have : ∀ n, ((if n = a then u else 0) + (if n = b then v else 0)) * P n
      = (if n = a then u * P a else 0) + (if n = b then v * P b else 0) := by
    intro n
    by_cases ha : n = a
    · subst ha; simp [hab]
    · by_cases hb : n = b
      · subst hb; simp [ha]
      · simp [ha, hb]
  simp only [this, Finset.sum_add_distrib, Finset.sum_ite_eq', Finset.mem_univ, if_true]

end Cert.KernelIdeal.Value
-- ==== Proof.Blocks.lean ====
/-
  WHAT A KERNEL BODY STORES, read at an index, as a function of its input blocks: each output row of the compression (for
  query, key and value) and of the expansion is the sum over the eight neurons of the row's spread weight times the row's
  product with the neuron; the pairs of weights and indices are the routing's.
-/
module

public import proofs.«01_k».proof.Proof.RouteRow
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

section Region0

variable (x0 : FVec Ideal S512x768 .f32) (x1 x2 x3 : FVec Ideal S512x8 .f32) (x4 : FVec Ideal S8x768x384 .f32)

/-- The spread weights the body multiplies by for the query route are those of its scores. -/
theorem w_q : k0_pay67 (F := Ideal) x0 x1 x2 x3 x4 = wFull x1 := by
  unfold k0_pay67
  frame_out
  rfl

/-- The spread weights the body multiplies by for the key route are those of its scores. -/
theorem w_k : k0_pay68 (F := Ideal) x0 x1 x2 x3 x4 = wFull x2 := by
  unfold k0_pay68
  frame_out
  rfl

/-- The spread weights the body multiplies by for the value route are those of its scores. -/
theorem w_v : k0_pay69 (F := Ideal) x0 x1 x2 x3 x4 = wFull x3 := by
  unfold k0_pay69
  frame_out
  rfl

/-- The query rows. -/
theorem q_at (r : Fin 512) (j : Fin 384) : out0_5 (F := Ideal) x0 x1 x2 x3 x4 (ix2 r j)
    = ∑ n : Fin 8, wFull x1 (ix2 r n) * ∑ k : Fin 768, x0 (ix2 r k) * x4 (ix3 n k j) := by
  unfold out0_5
  frame_out
  rw [w_q]
  pointwise [k0_pay63, k0_pay57, k0_pay51, k0_pay66, k0_pay2, k0_pay47, k0_pay50, k0_pay53, k0_pay54, k0_pay56, k0_pay59, k0_pay60, k0_pay62]
  rw [Fin.sum_univ_eight]

/-- The key rows. -/
theorem k_at (r : Fin 512) (j : Fin 384) : out0_6 (F := Ideal) x0 x1 x2 x3 x4 (ix2 r j)
    = ∑ n : Fin 8, wFull x2 (ix2 r n) * ∑ k : Fin 768, x0 (ix2 r k) * x4 (ix3 n k j) := by
  unfold out0_6
  frame_out
  rw [w_k]
  pointwise [k0_pay64, k0_pay58, k0_pay48, k0_pay52, k0_pay70, k0_pay66, k0_pay2, k0_pay47, k0_pay50, k0_pay53, k0_pay54, k0_pay56, k0_pay59, k0_pay60, k0_pay62]
  rw [Fin.sum_univ_eight]

/-- The value rows. -/
theorem v_at (r : Fin 512) (j : Fin 384) : out0_7 (F := Ideal) x0 x1 x2 x3 x4 (ix2 r j)
    = ∑ n : Fin 8, wFull x3 (ix2 r n) * ∑ k : Fin 768, x0 (ix2 r k) * x4 (ix3 n k j) := by
  unfold out0_7
  frame_out
  rw [w_v]
  pointwise [k0_pay1, k0_pay61, k0_pay65, k0_pay55, k0_pay49, k0_pay70, k0_pay66, k0_pay2, k0_pay47, k0_pay50, k0_pay53, k0_pay54, k0_pay56, k0_pay59, k0_pay60, k0_pay62]
  rw [Fin.sum_univ_eight]

/-- The pairs of the query route. -/
theorem qw_eq : out0_8 (F := Ideal) x0 x1 x2 x3 x4 = k0_pay13 (F := Ideal) x1 := by
  unfold out0_8; frame_out
/-- The stored block of query indices is the pair of indices of the block of query scores. -/
theorem qi_eq : out0_9 (F := Ideal) x0 x1 x2 x3 x4 = k0_pay14 (F := Ideal) x1 := by
  unfold out0_9; frame_out

/-- The pairs of the key route. -/
theorem kw_eq : out0_10 (F := Ideal) x0 x1 x2 x3 x4 = k0_pay13 (F := Ideal) x2 := by
  unfold out0_10; frame_out; rfl
/-- The stored block of key indices is the pair of indices of the block of key scores. -/
theorem ki_eq : out0_11 (F := Ideal) x0 x1 x2 x3 x4 = k0_pay14 (F := Ideal) x2 := by
  unfold out0_11; frame_out; rfl

/-- The pairs of the value route. -/
theorem vw_eq : out0_12 (F := Ideal) x0 x1 x2 x3 x4 = k0_pay13 (F := Ideal) x3 := by
  unfold out0_12; frame_out; rfl
/-- The stored block of value indices is the pair of indices of the block of value scores. -/
theorem vi_eq : out0_13 (F := Ideal) x0 x1 x2 x3 x4 = k0_pay14 (F := Ideal) x3 := by
  unfold out0_13; frame_out; rfl

end Region0

section Region1

variable (x0 : FVec Ideal S512x384 .f32) (x1 : FVec Ideal S512x8 .f32) (x2 : FVec Ideal S8x384x768 .f32)

/-- The spread weights the body multiplies by for the output route are those of its scores. -/
theorem w_o : k1_pay18 (F := Ideal) (k1_pay21 x0 x1 x2) (k1_pay22 (F := Ideal) x0 x1 x2) (Scalar.ofBits .f32 0x00000000#32) (k1_pay23 x0 x1 x2)
    = wFull x1 := by
  unfold k1_pay21 k1_pay22 k1_pay23
  frame_out
  rfl

/-- The expanded rows. -/
theorem o_at (r : Fin 512) (j : Fin 768) : out1_3 (F := Ideal) x0 x1 x2 (ix2 r j)
    = ∑ n : Fin 8, wFull x1 (ix2 r n) * ∑ k : Fin 384, x0 (ix2 r k) * x2 (ix3 n k j) := by
  rw [← w_o x0 x1 x2]
  unfold out1_3
  frame_out
  pointwise [k1_pay1, k1_pay19, k1_pay20, k1_pay2, k1_pay18]
  rw [Fin.sum_univ_eight]

/-- The pairs of the expand route. -/
theorem ow_eq : out1_4 (F := Ideal) x0 x1 x2 = k0_pay13 (F := Ideal) x1 := by
  unfold out1_4; frame_out; rfl
/-- The stored block of output indices is the pair of indices of the block of output scores. -/
theorem oi_eq : out1_5 (F := Ideal) x0 x1 x2 = k0_pay14 (F := Ideal) x1 := by
  unfold out1_5; frame_out; rfl

end Region1

end Cert.KernelIdeal.Value
-- ==== Proof.Arrays.lean ====
/-
  THE RESULT ARRAYS OF THE TWO KERNELS, as functions of the contents their operand arrays hold on entry: every block of 512
  rows is stored by its own grid point, and a row depends on its own row of the operands alone.
-/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The spread weights of one row of scores. -/
def wRow (f : Fin 8 → EReal) (n : Fin 8) : EReal := wFull (fun i : S512x8.Idx => f (i 1)) (ix2 0 n)
/-- The pair of weights of one row of scores. -/
def pairW (f : Fin 8 → EReal) (j : Fin 2) : EReal := k0_pay13 (F := Ideal) (fun i : S512x8.Idx => f (i 1)) (ix2 0 j)
/-- The pair of indices of one row of scores. -/
def pairI (f : Fin 8 → EReal) (j : Fin 2) : BitVec 32 := k0_pay14 (F := Ideal) (fun i : S512x8.Idx => f (i 1)) (ix2 0 j)

/-- A row's spread weights depend on that row alone. -/
theorem wFull_eq (s : FVec Ideal S512x8 .f32) (r : Fin 512) (n : Fin 8) : wFull s (ix2 r n) = wRow (fun k => s (ix2 r k)) n := by
  pointwise [wRow, wFull, k0_pay18, k0_pay15, k0_pay16, k0_pay17, k0_pay11, k0_pay12, k0_pay9, k0_pay10, k0_pay8, k0_pay7, k0_pay6, k0_pay5, k0_pay4, k0_pay3]

/-- A row's pair of weights depends on that row alone. -/
theorem pairW_eq (s : FVec Ideal S512x8 .f32) (r : Fin 512) (j : Fin 2) :
    k0_pay13 (F := Ideal) s (ix2 r j) = pairW (fun k => s (ix2 r k)) j := by
  pointwise [pairW, k0_pay13, k0_pay11, k0_pay12, k0_pay9, k0_pay10, k0_pay8, k0_pay7, k0_pay6, k0_pay5, k0_pay4, k0_pay3]

/-- A row's pair of indices depends on that row alone. -/
theorem pairI_eq (s : FVec Ideal S512x8 .f32) (r : Fin 512) (j : Fin 2) :
    k0_pay14 (F := Ideal) s (ix2 r j) = pairI (fun k => s (ix2 r k)) j := by
  pointwise [pairI, k0_pay14, k0_pay8, k0_pay7, k0_pay6, k0_pay5, k0_pay4, k0_pay3]

/-- Every block of the first kernel's windows: the block index is the grid point, or the whole array for the neurons. -/
theorem idx0 : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

section Region0

variable (V : (c : Dev nD) → (b : Ref sig .tc) → Buf (Elt Ideal) ((c : Thread nD τ).loc b)) (c : Dev nD)

/-- The mixture of the eight compressed products of a row. -/
def mixC (S : FVec Ideal S2048x8 .f32) (X : FVec Ideal S2048x768 .f32) (C : FVec Ideal S8x768x384 .f32) :
    FVec Ideal S2048x384 .f32 := fun i =>
  ∑ n : Fin 8, wRow (fun k => S (ix2 (i 0) k)) n * ∑ k : Fin 768, X (ix2 (i 0) k) * C (ix3 n k (i 1))

/-- The pairs of weights of every row. -/
def allW (S : FVec Ideal S2048x8 .f32) : FVec Ideal S2048x2 .f32 := fun i => pairW (fun k => S (ix2 (i 0) k)) (i 1)
/-- The pairs of indices of every row. -/
def allI (S : FVec Ideal S2048x8 .f32) : IVec S2048x2 32 := fun i => pairI (fun k => S (ix2 (i 0) k)) (i 1)

/-- The query array: the mixtures by its scores. -/
theorem arr_q : (dat0 V c).arrAt 5 cfg0.N = mixC (V c main_v2) (V c main_v9) (V c main_arg1) := by
  refine (dat0 V c).arrAt_eq_of_covers 5 _ (by decide +kernel) fun t _ y => ?_
  blk_simp
  rw [after0_5]
  idx_vars y
  rw [q_at]
  simp only [wFull_eq, mixC]
  obtain ⟨h0, h1, _, _, h4, h5, _, _, _, _, _, _, _, _⟩ := idx0 t
  blk_point [iblk0, h0, h1, h4, h5]

/-- The key array: the mixtures by its scores. -/
theorem arr_k : (dat0 V c).arrAt 6 cfg0.N = mixC (V c main_v5) (V c main_v9) (V c main_arg1) := by
  refine (dat0 V c).arrAt_eq_of_covers 6 _ (by decide +kernel) fun t _ y => ?_
  blk_simp
  rw [after0_6]
  idx_vars y
  rw [k_at]
  simp only [wFull_eq, mixC]
  obtain ⟨h0, _, h2, _, h4, _, h6, _, _, _, _, _, _, _⟩ := idx0 t
  blk_point [iblk0, h0, h2, h4, h6]

/-- The value array: the mixtures by its scores. -/
theorem arr_v : (dat0 V c).arrAt 7 cfg0.N = mixC (V c main_v8) (V c main_v9) (V c main_arg1) := by
  refine (dat0 V c).arrAt_eq_of_covers 7 _ (by decide +kernel) fun t _ y => ?_
  blk_simp
  rw [after0_7]
  idx_vars y
  rw [v_at]
  simp only [wFull_eq, mixC]
  obtain ⟨h0, _, _, h3, h4, _, _, h7, _, _, _, _, _, _⟩ := idx0 t
  blk_point [iblk0, h0, h3, h4, h7]

/-- The query route's weights. -/
theorem arr_qw : (dat0 V c).arrAt 8 cfg0.N = allW (V c main_v2) := by
  refine (dat0 V c).arrAt_eq_of_covers 8 _ (by decide +kernel) fun t _ y => ?_
  blk_simp
  rw [after0_8]
  idx_vars y
  rw [qw_eq]
  simp only [pairW_eq, allW]
  obtain ⟨_, h1, _, _, _, _, _, _, h8, _, _, _, _, _⟩ := idx0 t
  refine congrArg₂ pairW (funext fun k => ?_) (Fin.ext ?_)
  · blk_point [iblk0, h1, h8]
  · blk_simp [iblk0, h1, h8]

/-- The query route's indices. -/
theorem arr_qi : (dat0 V c).arrAt 9 cfg0.N = allI (V c main_v2) := by
  refine (dat0 V c).arrAt_eq_of_covers 9 _ (by decide +kernel) fun t _ y => ?_
  blk_simp
  rw [after0_9]
  idx_vars y
  rw [qi_eq]
  simp only [pairI_eq, allI]
  obtain ⟨_, h1, _, _, _, _, _, _, _, h9, _, _, _, _⟩ := idx0 t
  refine congrArg₂ pairI (funext fun k => ?_) (Fin.ext ?_)
  · blk_point [iblk0, h1, h9]
  · blk_simp [iblk0, h1, h9]

/-- The key route's weights. -/
theorem arr_kw : (dat0 V c).arrAt 10 cfg0.N = allW (V c main_v5) := by
  refine (dat0 V c).arrAt_eq_of_covers 10 _ (by decide +kernel) fun t _ y => ?_
  blk_simp
  rw [after0_10]
  idx_vars y
  rw [kw_eq]
  simp only [pairW_eq, allW]
  obtain ⟨_, _, h2, _, _, _, _, _, _, _, h10, _, _, _⟩ := idx0 t
  refine congrArg₂ pairW (funext fun k => ?_) (Fin.ext ?_)
  · blk_point [iblk0, h2, h10]
  · blk_simp [iblk0, h2, h10]

/-- The key route's indices. -/
theorem arr_ki : (dat0 V c).arrAt 11 cfg0.N = allI (V c main_v5) := by
  refine (dat0 V c).arrAt_eq_of_covers 11 _ (by decide +kernel) fun t _ y => ?_
  blk_simp
  rw [after0_11]
  idx_vars y
  rw [ki_eq]
  simp only [pairI_eq, allI]
  obtain ⟨_, _, h2, _, _, _, _, _, _, _, _, h11, _, _⟩ := idx0 t
  refine congrArg₂ pairI (funext fun k => ?_) (Fin.ext ?_)
  · blk_point [iblk0, h2, h11]
  · blk_simp [iblk0, h2, h11]

/-- The value route's weights. -/
theorem arr_vw : (dat0 V c).arrAt 12 cfg0.N = allW (V c main_v8) := by
  refine (dat0 V c).arrAt_eq_of_covers 12 _ (by decide +kernel) fun t _ y => ?_
  blk_simp
  rw [after0_12]
  idx_vars y
  rw [vw_eq]
  simp only [pairW_eq, allW]
  obtain ⟨_, _, _, h3, _, _, _, _, _, _, _, _, h12, _⟩ := idx0 t
  refine congrArg₂ pairW (funext fun k => ?_) (Fin.ext ?_)
  · blk_point [iblk0, h3, h12]
  · blk_simp [iblk0, h3, h12]

/-- The value route's indices. -/
theorem arr_vi : (dat0 V c).arrAt 13 cfg0.N = allI (V c main_v8) := by
  refine (dat0 V c).arrAt_eq_of_covers 13 _ (by decide +kernel) fun t _ y => ?_
  blk_simp
  rw [after0_13]
  idx_vars y
  rw [vi_eq]
  simp only [pairI_eq, allI]
  obtain ⟨_, _, _, h3, _, _, _, _, _, _, _, _, _, h13⟩ := idx0 t
  refine congrArg₂ pairI (funext fun k => ?_) (Fin.ext ?_)
  · blk_point [iblk0, h3, h13]
  · blk_simp [iblk0, h3, h13]

end Region0

/-- Every block of the second kernel's windows: the block index is the grid point, or the whole array for the neurons. -/
theorem idx1 : ∀ t : Fin cfg1.N, win1_0.index t = ![t.val, 0] ∧ win1_1.index t = ![t.val, 0] ∧ win1_2.index t = ![0, 0, 0]
    ∧ win1_3.index t = ![t.val, 0] ∧ win1_4.index t = ![t.val, 0] ∧ win1_5.index t = ![t.val, 0] :=
  (by decide +kernel : ∀ t : Fin grid1.N, _)

section Region1

variable (V : (c : Dev nD) → (b : Ref sig .tc) → Buf (Elt Ideal) ((c : Thread nD τ).loc b)) (c : Dev nD)

/-- The mixture of the eight expanded products of a row. -/
def mixE (S : FVec Ideal S2048x8 .f32) (X : FVec Ideal S2048x384 .f32) (C : FVec Ideal S8x384x768 .f32) :
    FVec Ideal S2048x768 .f32 := fun i =>
  ∑ n : Fin 8, wRow (fun k => S (ix2 (i 0) k)) n * ∑ k : Fin 384, X (ix2 (i 0) k) * C (ix3 n k (i 1))

/-- The output array: the mixtures by the output scores. -/
theorem arr_o : (dat1 V c).arrAt 3 cfg1.N = mixE (V c main_v37) (V c main_v33) (V c main_arg2) := by
  refine (dat1 V c).arrAt_eq_of_covers 3 _ (by decide +kernel) fun t _ y => ?_
  blk_simp
  rw [after1_3]
  idx_vars y
  rw [o_at]
  simp only [wFull_eq, mixE]
  obtain ⟨h0, h1, h2, h3, _, _⟩ := idx1 t
  blk_point [iblk1, h0, h1, h2, h3]

/-- The output route's weights. -/
theorem arr_ow : (dat1 V c).arrAt 4 cfg1.N = allW (V c main_v37) := by
  refine (dat1 V c).arrAt_eq_of_covers 4 _ (by decide +kernel) fun t _ y => ?_
  blk_simp
  rw [after1_4]
  idx_vars y
  rw [ow_eq]
  simp only [pairW_eq, allW]
  obtain ⟨_, h1, _, _, h4, _⟩ := idx1 t
  refine congrArg₂ pairW (funext fun k => ?_) (Fin.ext ?_)
  · blk_point [iblk1, h1, h4]
  · blk_simp [iblk1, h1, h4]

/-- The output route's indices. -/
theorem arr_oi : (dat1 V c).arrAt 5 cfg1.N = allI (V c main_v37) := by
  refine (dat1 V c).arrAt_eq_of_covers 5 _ (by decide +kernel) fun t _ y => ?_
  blk_simp
  rw [after1_5]
  idx_vars y
  rw [oi_eq]
  simp only [pairI_eq, allI]
  obtain ⟨_, h1, _, _, _, h5⟩ := idx1 t
  refine congrArg₂ pairI (funext fun k => ?_) (Fin.ext ?_)
  · blk_point [iblk1, h1, h5]
  · blk_simp [iblk1, h1, h5]

end Region1

/-! ## A row whose two greatest scores are known -/

open Cert.Route in
/-- The pair of weights of a row is the softmax of its two greatest scores. -/
theorem pairW_top (f : Fin 8 → EReal) {a b : Fin 8} (h : TopTwo f a b) (j : Fin 2) :
    pairW f j = if j = 0 then wFst (f a) (f b) else wSnd (f a) (f b) := by
  exact pair_weights (fun i : S512x8.Idx => f (i 1)) 0 h j

open Cert.Route in
/-- The pair of indices of a row is the pair of places of its two greatest scores. -/
theorem pairI_top (f : Fin 8 → EReal) {a b : Fin 8} (h : TopTwo f a b) (hb : f b ≠ ⊥) (j : Fin 2) :
    pairI f j = if j = 0 then BitVec.ofNat 32 a.val else BitVec.ofNat 32 b.val := by
  exact pair_indices (fun i : S512x8.Idx => f (i 1)) 0 h hb j

open Cert.Route in
/-- A row's spread weights pick its two greatest scores' summands. -/
theorem sum_wRow (f : Fin 8 → EReal) {a b : Fin 8} (h : TopTwo f a b) (hb : f b ≠ ⊥) (P : Fin 8 → EReal) :
    ∑ n : Fin 8, wRow f n * P n = wFst (f a) (f b) * P a + wSnd (f a) (f b) * P b := by
  rw [← sum_picked a b _ _ P h.ne]
  exact Finset.sum_congr rfl fun n _ => congrArg (· * P n) (wFull_row (fun i : S512x8.Idx => f (i 1)) 0 h hb n)

end Cert.KernelIdeal.Value
-- ==== Proof.Gather.lean ====
/-
  THE ROW PICKED ALONG THE THIRD AXIS, read at an index: the gather of `take_along_axis`, at an index in range, is the
  operand's row there.
-/
module

public import proofs.«01_k».proof.Proof.Gen.ReferenceIdeal
public import Idealize.ShloMosaic.Lib.Pointwise

@[expose] public section

set_option maxRecDepth 16384

noncomputable section

open Idealize.ShloMosaic

namespace Cert.ReferenceIdeal.Route

open Cert.ReferenceIdeal

/-- A word of an index below eight, read signed and clamped, is that index. -/
theorem clampWord : ∀ a : Fin 8, min (BitVec.ofNat 32 a.val).toInt.toNat 7 = a.val := by decide

/-- The row picked out of eight rows of width 384. -/
theorem gatherC {α : Type} (p : S1x2048x8x384.Idx → α) (ix : IVec S2048x2x1 32) (r : Fin 2048) (j : Fin 2) (d : Fin 384)
    (a : Fin 8) (h : ix (ix3 r j 0) = BitVec.ofNat 32 a.val) :
    Host.gather gather_S1x2048x8x384_S2048x2x1_S1x2048x2x384_03_2_1_0_2_2_111384 p ix (ix4 0 r j d) = p (ix4 0 r a d) := by
  refine congrArg p (funext fun e => Fin.ext ?_)
  match e with
  | ⟨0, _⟩ => rfl
  | ⟨1, _⟩ => show 0 + r.val + 0 = r.val; omega
  | ⟨2, _⟩ =>
    have hs : gather_S1x2048x8x384_S2048x2x1_S1x2048x2x384_03_2_1_0_2_2_111384.siIdx (ix4 0 r j d) ⟨0, by decide⟩ = ix3 r j 0 := by
      funext b
      match b with
      | ⟨0, _⟩ => rfl
      | ⟨1, _⟩ => rfl
      | ⟨2, _⟩ => rfl
    show min (ix (gather_S1x2048x8x384_S2048x2x1_S1x2048x2x384_03_2_1_0_2_2_111384.siIdx (ix4 0 r j d) ⟨0, by decide⟩)).toInt.toNat 7 = a.val
    rw [hs, h]
    exact clampWord a
  | ⟨3, _⟩ => show 0 + 0 + d.val = d.val; omega

/-- The row picked out of eight rows of width 768. -/
theorem gatherE {α : Type} (p : S1x2048x8x768.Idx → α) (ix : IVec S2048x2x1 32) (r : Fin 2048) (j : Fin 2) (d : Fin 768)
    (a : Fin 8) (h : ix (ix3 r j 0) = BitVec.ofNat 32 a.val) :
    Host.gather gather_S1x2048x8x768_S2048x2x1_S1x2048x2x768_03_2_1_0_2_2_111768 p ix (ix4 0 r j d) = p (ix4 0 r a d) := by
  refine congrArg p (funext fun e => Fin.ext ?_)
  match e with
  | ⟨0, _⟩ => rfl
  | ⟨1, _⟩ => show 0 + r.val + 0 = r.val; omega
  | ⟨2, _⟩ =>
    have hs : gather_S1x2048x8x768_S2048x2x1_S1x2048x2x768_03_2_1_0_2_2_111768.siIdx (ix4 0 r j d) ⟨0, by decide⟩ = ix3 r j 0 := by
      funext b
      match b with
      | ⟨0, _⟩ => rfl
      | ⟨1, _⟩ => rfl
      | ⟨2, _⟩ => rfl
    show min (ix (gather_S1x2048x8x768_S2048x2x1_S1x2048x2x768_03_2_1_0_2_2_111768.siIdx (ix4 0 r j d) ⟨0, by decide⟩)).toInt.toNat 7 = a.val
    rw [hs, h]
    exact clampWord a
  | ⟨3, _⟩ => show 0 + 0 + d.val = d.val; omega

end Cert.ReferenceIdeal.Route
-- ==== Proof.RefRoute.lean ====
/-
  ONE ROUTE OF THE REFERENCE, read at an index: the softmax of a row's pair of scores, and the weighted sum of the two rows
  picked by a pair of indices.
-/
module

public import proofs.«01_k».proof.Proof.Gather
public import proofs.«01_k».proof.Proof.RouteRow

@[expose] public section

set_option maxRecDepth 16384

noncomputable section

open Idealize.ShloMosaic

namespace Cert.ReferenceIdeal.Route

open Cert.ReferenceIdeal Cert.ReferenceIdeal.Gen Cert.Route

/-- The exponentials of a pair's differences from its maximum. -/
def expPair (v : FVec Ideal S1x2048x2 .f32) : FVec Ideal S1x2048x2 .f32 :=
  Host.exp (subf v (broadcastInDim S1x2048x2 ![0, 1, 2] bcast_S1x2048x1_S1x2048x2_0_1_2
    (broadcastInDim S1x2048x1 ![0, 1] bcast_S1x2048_S1x2048x1_0_1
      (maximumf (broadcastInDim S1x2048 ![] bcast_S_S1x2048 (constant S_ .f32 0xFF800000#32))
        (Host.reduce FloatOps.maximumf v (constant S_ .f32 0xFF800000#32) reducesTo_S1x2048x2_S1x2048_d2 h_S_)))))

/-- The softmax of a pair. -/
def softPair (v : FVec Ideal S1x2048x2 .f32) : FVec Ideal S1x2048x2 .f32 :=
  Host.divf (expPair v) (broadcastInDim S1x2048x2 ![0, 1, 2] bcast_S1x2048x1_S1x2048x2_0_1_2
    (broadcastInDim S1x2048x1 ![0, 1] bcast_S1x2048_S1x2048x1_0_1
      (Host.reduceAdd (expPair v) (constant S_ .f32 0x00000000#32) reducesTo_S1x2048x2_S1x2048_d2 h_S_)))

/-- A real number less itself is zero. -/
theorem sub_self_real (x : ℝ) : (x : EReal) - (x : EReal) = 0 := by
  rw [← EReal.coe_sub, sub_self, EReal.coe_zero]

/-- The exponential of zero is one. -/
theorem exp_zero : Ideal.exp 0 = 1 := by
  show ((Real.exp 0 : ℝ) : EReal) = 1
  rw [Real.exp_zero, EReal.coe_one]

/-- A word of an index below eight is not negative, so it is kept. -/
theorem wordKept : ∀ a : Fin 8, Scalar.select (IntOp.cmpi .slt (BitVec.ofNat 32 a.val) 0#32)
    (IntOp.addi (BitVec.ofNat 32 a.val) 8#32) (BitVec.ofNat 32 a.val) = BitVec.ofNat 32 a.val := by decide

/-- A word of an index below eight lies between zero and seven. -/
theorem wordIn : ∀ a : Fin 8, Finset.fold IntOp.andi 1#1 (fun _ : Fin 1 => IntOp.andi (IntOp.cmpi .sge (BitVec.ofNat 32 a.val) 0#32)
    (IntOp.cmpi .sle (BitVec.ofNat 32 a.val) 7#32)) Finset.univ = 1#1 := by decide

/-- The exponentials of a pair whose first is the greater. -/
theorem expPair_read (v : FVec Ideal S1x2048x2 .f32) (r : Fin 2048) (j : Fin 2) (h : v (ix3 0 r 1) ≤ v (ix3 0 r 0)) :
    expPair v (ix3 0 r j) = Ideal.exp (v (ix3 0 r j) - v (ix3 0 r 0)) := by
  pointwise [expPair]
  have hf := fold_max (fun x : Fin 2 => v (ix3 0 r x)) 0 (fun p => by fin_cases p; exacts [le_rfl, h])
  rw [ofBits_bot, hf, max_eq_right bot_le]

/-- The softmax of a pair whose first is the greater, a real number. -/
theorem softPair_read (v : FVec Ideal S1x2048x2 .f32) (r : Fin 2048) (j : Fin 2) (h : v (ix3 0 r 1) ≤ v (ix3 0 r 0))
    (x : ℝ) (hx : v (ix3 0 r 0) = (x : EReal)) :
    softPair v (ix3 0 r j) = if j = 0 then wFst (v (ix3 0 r 0)) (v (ix3 0 r 1)) else wSnd (v (ix3 0 r 0)) (v (ix3 0 r 1)) := by
  pointwise [softPair]
  rw [Fin.sum_univ_two, expPair_read v r j h, expPair_read v r 0 h, expPair_read v r 1 h, hx, sub_self_real, exp_zero]
  fin_cases j
  · show Ideal.div (Ideal.exp (v (ix3 0 r 0) - x)) _ = wFst _ _
    rw [hx, sub_self_real, exp_zero]; rfl
  · rfl

/-- The start indices of the picks: a negative index is wrapped round. -/
def starts (ix : IVec S1x2048x2 32) : IVec S2048x2x1 32 :=
  shapeCast _ (select (cmpi .slt (broadcastInDim S1x2048x2x1 ![0, 1, 2] bcast_S1x2048x2_S1x2048x2x1_0_1_2 ix)
      (broadcastInDim S1x2048x2x1 ![] bcast_S_S1x2048x2x1 (constantI S_ 32 0#32)))
    (addi (broadcastInDim S1x2048x2x1 ![0, 1, 2] bcast_S1x2048x2_S1x2048x2x1_0_1_2 ix)
      (broadcastInDim S1x2048x2x1 ![] bcast_S_S1x2048x2x1 (constantI S_ 32 8#32)))
    (broadcastInDim S1x2048x2x1 ![0, 1, 2] bcast_S1x2048x2_S1x2048x2x1_0_1_2 ix)) shapeCasts_S1x2048x2x1_S2048x2x1

/-- Which start indices are in range. -/
def inRange (s : IVec S2048x2x1 32) : IVec S2048x2 1 :=
  Host.reduce IntOp.andi (andi (cmpi .sge s (broadcastInDim S2048x2x1 ![] bcast_S_S2048x2x1 (constantI S_ 32 0#32)))
    (cmpi .sle s (broadcastInDim S2048x2x1 ![0, 1, 2] bcast_S1x1x1_S2048x2x1_0_1_2
      (broadcastInDim S1x1x1 ![2] bcast_S1_S1x1x1_2 (constantI S1 32 7#32))))) (constantI S_ 1 1#1) reducesTo_S2048x2x1_S2048x2_d2 h_S_

/-- The start index of an index in range is that index. -/
theorem starts_read (ix : IVec S1x2048x2 32) (r : Fin 2048) (j : Fin 2) (a : Fin 8) (h : ix (ix3 0 r j) = BitVec.ofNat 32 a.val) :
    starts ix (ix3 r j 0) = BitVec.ofNat 32 a.val := by
  pointwise [starts]
  rw [h]
  exact wordKept a

/-- An index below eight is in range. -/
theorem inRange_read (s : IVec S2048x2x1 32) (r : Fin 2048) (j : Fin 2) (a : Fin 8) (h : s (ix3 r j 0) = BitVec.ofNat 32 a.val) :
    inRange s (ix2 r j) = 1#1 := by
  pointwise [inRange]
  have hx : ∀ x : Fin 1, s (ix3 r j x) = BitVec.ofNat 32 a.val := fun x => by rw [Subsingleton.elim x 0]; exact h
  simp only [hx]
  exact wordIn a

/-- The rows picked by a pair of indices, as `take_along_axis` picks them: a negative index is wrapped, one out of range
    reads the fill. -/
def takeC (p : FVec Ideal S1x2048x8x384 .f32) (ix : IVec S1x2048x2 32) : FVec Ideal S1x2048x2x384 .f32 :=
  select (broadcastInDim S1x2048x2x384 ![1, 2] bcast_S2048x2_S1x2048x2x384_1_2 (inRange (starts ix)))
    (Host.gather gather_S1x2048x8x384_S2048x2x1_S1x2048x2x384_03_2_1_0_2_2_111384 p (starts ix))
    (broadcastInDim S1x2048x2x384 ![] bcast_S_S1x2048x2x384 (constant S_ .f32 0x7FC00000#32))

/-- The weighted sum of the two picked rows. -/
def mixC (p : FVec Ideal S1x2048x8x384 .f32) (w : FVec Ideal S1x2048x2 .f32) (ix : IVec S1x2048x2 32) : FVec Ideal S1x2048x384 .f32 :=
  Host.reduceAdd (mulf (takeC p ix) (broadcastInDim S1x2048x2x384 ![0, 1, 2, 3] bcast_S1x2048x2x1_S1x2048x2x384_0_1_2_3
    (broadcastInDim S1x2048x2x1 ![0, 1, 2] bcast_S1x2048x2_S1x2048x2x1_0_1_2 w)))
    (constant S_ .f32 0x00000000#32) reducesTo_S1x2048x2x384_S1x2048x384_d2 h_S_

/-- A row picked at an index in range is that row. -/
theorem takeC_read (p : FVec Ideal S1x2048x8x384 .f32) (ix : IVec S1x2048x2 32) (r : Fin 2048) (j : Fin 2) (d : Fin 384)
    (a : Fin 8) (h : ix (ix3 0 r j) = BitVec.ofNat 32 a.val) : takeC p ix (ix4 0 r j d) = p (ix4 0 r a d) := by
  have hs := starts_read ix r j a h
  pointwise [takeC]
  rw [inRange_read (starts ix) r j a hs]
  exact gatherC p _ r j d a hs

/-- The weighted sum of the two picked rows, at an index. -/
theorem mixC_read (p : FVec Ideal S1x2048x8x384 .f32) (w : FVec Ideal S1x2048x2 .f32) (ix : IVec S1x2048x2 32) (r : Fin 2048)
    (d : Fin 384) (a b : Fin 8) (ha : ix (ix3 0 r 0) = BitVec.ofNat 32 a.val) (hb : ix (ix3 0 r 1) = BitVec.ofNat 32 b.val) :
    mixC p w ix (ix3 0 r d) = w (ix3 0 r 0) * p (ix4 0 r a d) + w (ix3 0 r 1) * p (ix4 0 r b d) := by
  pointwise [mixC]
  rw [Fin.sum_univ_two]
  rw [takeC_read p ix r 0 d a ha, takeC_read p ix r 1 d b hb, mul_comm (w _), mul_comm (w _)]

/-- The rows picked by a pair of indices, as `take_along_axis` picks them: a negative index is wrapped, one out of range
    reads the fill. -/
def takeE (p : FVec Ideal S1x2048x8x768 .f32) (ix : IVec S1x2048x2 32) : FVec Ideal S1x2048x2x768 .f32 :=
  select (broadcastInDim S1x2048x2x768 ![1, 2] bcast_S2048x2_S1x2048x2x768_1_2 (inRange (starts ix)))
    (Host.gather gather_S1x2048x8x768_S2048x2x1_S1x2048x2x768_03_2_1_0_2_2_111768 p (starts ix))
    (broadcastInDim S1x2048x2x768 ![] bcast_S_S1x2048x2x768 (constant S_ .f32 0x7FC00000#32))

/-- The weighted sum of the two picked rows. -/
def mixE (p : FVec Ideal S1x2048x8x768 .f32) (w : FVec Ideal S1x2048x2 .f32) (ix : IVec S1x2048x2 32) : FVec Ideal S1x2048x768 .f32 :=
  Host.reduceAdd (mulf (takeE p ix) (broadcastInDim S1x2048x2x768 ![0, 1, 2, 3] bcast_S1x2048x2x1_S1x2048x2x768_0_1_2_3
    (broadcastInDim S1x2048x2x1 ![0, 1, 2] bcast_S1x2048x2_S1x2048x2x1_0_1_2 w)))
    (constant S_ .f32 0x00000000#32) reducesTo_S1x2048x2x768_S1x2048x768_d2 h_S_

/-- A row picked at an index in range is that row. -/
theorem takeE_read (p : FVec Ideal S1x2048x8x768 .f32) (ix : IVec S1x2048x2 32) (r : Fin 2048) (j : Fin 2) (d : Fin 768)
    (a : Fin 8) (h : ix (ix3 0 r j) = BitVec.ofNat 32 a.val) : takeE p ix (ix4 0 r j d) = p (ix4 0 r a d) := by
  have hs := starts_read ix r j a h
  pointwise [takeE]
  rw [inRange_read (starts ix) r j a hs]
  exact gatherE p _ r j d a hs

/-- The weighted sum of the two picked rows, at an index. -/
theorem mixE_read (p : FVec Ideal S1x2048x8x768 .f32) (w : FVec Ideal S1x2048x2 .f32) (ix : IVec S1x2048x2 32) (r : Fin 2048)
    (d : Fin 768) (a b : Fin 8) (ha : ix (ix3 0 r 0) = BitVec.ofNat 32 a.val) (hb : ix (ix3 0 r 1) = BitVec.ofNat 32 b.val) :
    mixE p w ix (ix3 0 r d) = w (ix3 0 r 0) * p (ix4 0 r a d) + w (ix3 0 r 1) * p (ix4 0 r b d) := by
  pointwise [mixE]
  rw [Fin.sum_univ_two]
  rw [takeE_read p ix r 0 d a ha, takeE_read p ix r 1 d b hb, mul_comm (w _), mul_comm (w _)]

end Cert.ReferenceIdeal.Route
-- ==== Proof.TopK.lean ====
/-
  THE REFERENCE'S TOP-K READ AT AN INDEX: for a row whose two greatest entries stand at positions `a` and `b`, the values
  are the row's entries there and the indices are `a` and `b` as words.
-/
module

public import proofs.«01_k».proof.Proof.TopTwo
public import Idealize.ShloMosaic.Lib.ValueIdx

@[expose] public section

set_option maxRecDepth 16384

noncomputable section

open Idealize.ShloMosaic

namespace Cert.Route

/-- The shape of a score array, one row of eight scores per token. -/
abbrev SScore : Shape := ⟨3, ![1, 2048, 8]⟩
/-- The shape of the picked pairs, one per token. -/
abbrev SPair : Shape := ⟨3, ![1, 2048, 2]⟩

/-- The extended reals' order comparison is a decided inequality. -/
theorem cmpGt (x y : EReal) :
    ((FloatOps.cmpfTotal (F := Ideal) (φ := .f32) .gt x y : BitVec 1) == 1#1) = decide (y < x) := by
  show (Ideal.cmp .ogt x y == 1#1) = _
  by_cases h : y < x <;> simp [Ideal.cmp, h]

/-- A row's position moved along the last axis. -/
theorem along_row (r : Fin 2048) (j : SScore.Idx) (h0 : (j 1 : Fin 2048) = r) (k : Fin 8) :
    Shape.Idx.along j 2 k = ix3 0 r k := by
  funext a
  unfold Shape.Idx.along
  fin_cases a
  · exact Subsingleton.elim (α := Fin 1) _ _
  · exact (Function.update_of_ne (show (1 : Fin 3) ≠ 2 by decide) _ _).trans h0
  · exact Function.update_self ..

/-- The pair's `c`-th value and index are read at the position the sort puts `c`-th. -/
theorem topK_at (x : FVec Ideal SScore .f32) (hs : SScore.Slices (fun _ => 0) SPair) (r : Fin 2048) (c : Fin 2) (p : Fin 8)
    (hp : sortedFrom (fun k k' : Fin 8 => FloatOps.cmpfTotal .gt (x (ix3 0 r k)) (x (ix3 0 r k')) == 1#1)
      (c.castLE (by decide)) = p) :
    (Host.topK SPair 2 (FloatOps.cmpfTotal .gt) x hs).1 (ix3 0 r c) = x (ix3 0 r p)
      ∧ (Host.topK SPair 2 (FloatOps.cmpfTotal .gt) x hs).2 (ix3 0 r c) = BitVec.ofNat 32 p.val := by
  set j : SScore.Idx := fun a => ⟨0 + ((ix3 0 r c : SPair.Idx) (a.cast hs.1.symm)).val,
    Nat.lt_of_lt_of_le (Nat.add_lt_add_left ((ix3 0 r c : SPair.Idx) _).isLt _) (hs.2 a)⟩ with hj
  have hj1 : (j 1 : Fin 2048) = r := Fin.ext (Nat.zero_add _)
  have hj2 : (j 2 : Fin 8) = c.castLE (by decide) := Fin.ext (Nat.zero_add _)
  have hal : ∀ k : Fin 8, Shape.Idx.along j 2 k = ix3 0 r k := along_row r j hj1
  have hpos : sortedFrom (fun k k' : Fin 8 => FloatOps.cmpfTotal .gt (x (Shape.Idx.along j 2 k))
      (x (Shape.Idx.along j 2 k')) == 1#1) (j 2) = p := by
    rw [← hp]
    simp only [hal]
    exact congrArg _ hj2
  constructor
  · show x (Shape.Idx.along j 2 (sortedFrom (fun k k' : Fin 8 => FloatOps.cmpfTotal .gt (x (Shape.Idx.along j 2 k))
      (x (Shape.Idx.along j 2 k')) == 1#1) (j 2))) = _
    exact congrArg x ((congrArg _ hpos).trans (hal p))
  · show BitVec.ofNat 32 ((Shape.Idx.along j 2 (sortedFrom (fun k k' : Fin 8 => FloatOps.cmpfTotal .gt
      (x (Shape.Idx.along j 2 k)) (x (Shape.Idx.along j 2 k')) == 1#1) (j 2)) : SScore.Idx) 2).val = _
    exact congrArg (fun i : SScore.Idx => BitVec.ofNat 32 (i 2).val) ((congrArg _ hpos).trans (hal p))

/-- The picked values and indices of a row whose two greatest entries stand at `a` and `b`. -/
theorem topK_read (x : FVec Ideal SScore .f32) (hs : SScore.Slices (fun _ => 0) SPair) (r : Fin 2048) (a b : Fin 8)
    (h : TopTwo (fun k => x (ix3 0 r k)) a b) :
    ((Host.topK SPair 2 (FloatOps.cmpfTotal .gt) x hs).1 (ix3 0 r 0) = x (ix3 0 r a)
      ∧ (Host.topK SPair 2 (FloatOps.cmpfTotal .gt) x hs).1 (ix3 0 r 1) = x (ix3 0 r b))
    ∧ ((Host.topK SPair 2 (FloatOps.cmpfTotal .gt) x hs).2 (ix3 0 r 0) = BitVec.ofNat 32 a.val
      ∧ (Host.topK SPair 2 (FloatOps.cmpfTotal .gt) x hs).2 (ix3 0 r 1) = BitVec.ofNat 32 b.val) := by
  obtain ⟨h0, h1⟩ := h.sortedFrom _ (fun k k' => cmpGt _ _)
  obtain ⟨v0, i0⟩ := topK_at x hs r 0 a h0
  obtain ⟨v1, i1⟩ := topK_at x hs r 1 b h1
  exact ⟨⟨v0, v1⟩, i0, i1⟩

end Cert.Route
-- ==== Proof.Reals.lean ====
/-
  VALUES THAT ARE REAL NUMBERS: the operations of the two programs that keep them so.
-/
module

public import Idealize.ShloMosaic.Lib.Pointwise

@[expose] public section

set_option maxRecDepth 16384

noncomputable section

open Idealize.ShloMosaic

namespace Cert.Route

/-- A value that is a real number. -/
def IsReal (x : EReal) : Prop := ∃ y : ℝ, x = (y : EReal)

/-- A value that is a positive real number. -/
def IsPos (x : EReal) : Prop := ∃ y : ℝ, 0 < y ∧ x = (y : EReal)

/-- A real value is not minus infinity. -/
theorem IsReal.ne_bot {x : EReal} (h : IsReal x) : x ≠ ⊥ := by
  obtain ⟨y, rfl⟩ := h; exact EReal.coe_ne_bot y

/-- A positive real is real. -/
theorem IsPos.real {x : EReal} (h : IsPos x) : IsReal x := by obtain ⟨y, -, rfl⟩ := h; exact ⟨y, rfl⟩

/-- Zero is real. -/
theorem isReal_zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- A sum of positive reals over a nonempty index is positive. -/
theorem isPos_sum {n : ℕ} (a : Fin n) (f : Fin n → EReal) (h : ∀ i, IsPos (f i)) : IsPos (∑ i, f i) := by
  choose g hg using h
  refine ⟨∑ i, g i, Finset.sum_pos (fun i _ => (hg i).1) ⟨a, Finset.mem_univ a⟩, ?_⟩
  rw [Finset.sum_congr rfl fun i _ => (hg i).2]
  exact (map_sum (⟨⟨Real.toEReal, rfl⟩, EReal.coe_add⟩ : ℝ →+ EReal) g Finset.univ).symm

/-- A quotient of a real by a positive real is real. -/
theorem IsReal.div {x y : EReal} (hx : IsReal x) (hy : IsPos y) : IsReal (Ideal.div x y) := by
  obtain ⟨a, rfl⟩ := hx; obtain ⟨b, hb, rfl⟩ := hy
  refine ⟨a * b⁻¹, ?_⟩
  unfold Ideal.div
  rw [if_neg (by exact_mod_cast hb.ne'), EReal.coe_mul, EReal.coe_inv]

/-- The exponential of a real is positive. -/
theorem IsReal.exp {x : EReal} (hx : IsReal x) : IsPos (Ideal.exp x) := by
  obtain ⟨a, rfl⟩ := hx; exact ⟨Real.exp a, Real.exp_pos a, rfl⟩

/-- The maximum of finitely many reals, at least one, is real. -/
theorem isReal_fold_max {n : ℕ} (a₀ : Fin n) (f : Fin n → EReal) (h : ∀ i, IsReal (f i)) : IsReal (Finset.univ.fold max ⊥ f) := by
  haveI : Nonempty (Fin n) := ⟨a₀⟩
  obtain ⟨a, ha⟩ := Finite.exists_max f
  have : Finset.univ.fold max ⊥ f = f a :=
    le_antisymm (Finset.fold_max_le _ |>.2 ⟨bot_le, fun p _ => ha p⟩) (Finset.le_fold_max _ |>.2 (.inr ⟨a, Finset.mem_univ _, le_rfl⟩))
  rw [this]; exact h a

/-- An absolute value below infinity: the value is real. -/
theorem isReal_of_abs {x : EReal} (h : max x (-x) < ⊤) : IsReal x := by
  obtain ⟨h1, h2⟩ := max_lt_iff.1 h
  induction x using EReal.rec with
  | bot => exact absurd h2 (by simp)
  | coe y => exact ⟨y, rfl⟩
  | top => exact absurd h1 (by simp)

/-- An array of real numbers. -/
def AllReal {S : Shape} {φ : FTy} (x : FVec Ideal S φ) : Prop := ∀ i, IsReal (x i)

/-- A matrix product of real arrays is real. -/
theorem AllReal.dotGeneral {sa sb sc : Shape} {pr : Option ContractPrecision} (d : DotDims sa sb sc) (x : FVec Ideal sa .f32) (y : FVec Ideal sb .f32)
    (hx : AllReal x) (hy : AllReal y) : AllReal (φ := .f32) (Host.dotGeneral (F := Ideal) d pr x y) := by
  intro i
  simp only [Host.dotGeneral]
  rw [Ideal.dotGeneral_apply]
  exact isReal_sum _ _ fun k => (hx _).mul (hy _)

/-- A transposed real array is real. -/
theorem AllReal.transpose {s t : Shape} (p : List (Fin s.rank)) (x : FVec Ideal s .f32) (h : s.Transposes p t) (hx : AllReal x) :
    AllReal (φ := .f32) (Idealize.ShloMosaic.transpose t p x h) := fun _ => hx _

/-- A reshaped real array is real. -/
theorem AllReal.shapeCast {s t : Shape} (x : FVec Ideal s .f32) (h : s.ShapeCasts t) (hx : AllReal x) :
    AllReal (φ := .f32) (Idealize.ShloMosaic.shapeCast t x h) := fun _ => hx _

end Cert.Route
-- ==== Proof.RouteEq.lean ====
/-
  ONE ROUTE, KERNEL AGAINST REFERENCE: on a row of real scores, the pair of weights, the pair of indices and the weighted
  sum of the reference are the kernel's row functions of the same scores.
-/
module

public import proofs.«01_k».proof.Proof.Arrays
public import proofs.«01_k».proof.Proof.RefRoute
public import proofs.«01_k».proof.Proof.TopK
public import proofs.«01_k».proof.Proof.Reals

@[expose] public section

set_option maxRecDepth 16384

noncomputable section

open Idealize.ShloMosaic

namespace Cert.ReferenceIdeal.Route

open Cert.ReferenceIdeal Cert.ReferenceIdeal.Gen Cert.Route
open Cert.KernelIdeal.Value (pairW pairI wRow pairW_top pairI_top sum_wRow)

/-- The two greatest scores of every row. -/
def topV (s : FVec Ideal S1x2048x8 .f32) : FVec Ideal S1x2048x2 .f32 :=
  (Host.topK S1x2048x2 2 (FloatOps.cmpfTotal (F := Ideal) (φ := .f32) .gt) s sliceFits_S1x2048x8_S1x2048x2).1

/-- The places of the two greatest scores of every row. -/
def topI (s : FVec Ideal S1x2048x8 .f32) : IVec S1x2048x2 32 :=
  (Host.topK S1x2048x2 2 (FloatOps.cmpfTotal (F := Ideal) (φ := .f32) .gt) s sliceFits_S1x2048x8_S1x2048x2).2

/-- One plus an exponential of a real is positive. -/
theorem onePlus_pos {x : EReal} (hx : IsReal x) : IsPos (1 + Ideal.exp x) := by
  obtain ⟨e, he, h⟩ := hx.exp
  exact ⟨1 + e, by positivity, by rw [h, EReal.coe_add, EReal.coe_one]⟩

/-- The first weight of two real scores is real. -/
theorem wFst_real {u v : EReal} (hu : IsReal u) (hv : IsReal v) : IsReal (wFst u v) :=
  IsReal.div ⟨1, EReal.coe_one.symm⟩ (onePlus_pos (hv.sub hu))

/-- The second weight of two real scores is real. -/
theorem wSnd_real {u v : EReal} (hu : IsReal u) (hv : IsReal v) : IsReal (wSnd u v) :=
  (hv.sub hu).exp.real.div (onePlus_pos (hv.sub hu))

variable (s : FVec Ideal S1x2048x8 .f32) (r : Fin 2048) (hs : ∀ k, IsReal (s (ix3 0 r k)))
include hs

/-- The reference's weights of a row are the kernel's. -/
theorem weights_eq (j : Fin 2) : softPair (topV s) (ix3 0 r j) = pairW (fun k => s (ix3 0 r k)) j := by
  obtain ⟨a, b, h⟩ := exists_topTwo fun k => s (ix3 0 r k)
  obtain ⟨⟨h0, h1⟩, -⟩ := topK_read s sliceFits_S1x2048x8_S1x2048x2 r a b h
  obtain ⟨x, hx⟩ := hs a
  have e0 : topV s (ix3 0 r 0) = s (ix3 0 r a) := h0
  have e1 : topV s (ix3 0 r 1) = s (ix3 0 r b) := h1
  rw [pairW_top _ h, softPair_read (topV s) r j (by rw [e0, e1]; exact (h.fst b).elim le_of_lt fun e => e.1.le) x (e0.trans hx), e0, e1]

/-- The reference's indices of a row are the kernel's. -/
theorem indices_eq (j : Fin 2) : topI s (ix3 0 r j) = pairI (fun k => s (ix3 0 r k)) j := by
  obtain ⟨a, b, h⟩ := exists_topTwo fun k => s (ix3 0 r k)
  obtain ⟨-, h0, h1⟩ := topK_read s sliceFits_S1x2048x8_S1x2048x2 r a b h
  rw [pairI_top _ h (hs b).ne_bot]
  fin_cases j
  · exact h0
  · exact h1

/-- The reference's weighted sum of the two picked compressed rows is the kernel's sum over all eight. -/
theorem mixC_eq (p : FVec Ideal S1x2048x8x384 .f32) (d : Fin 384) :
    mixC p (softPair (topV s)) (topI s) (ix3 0 r d) = ∑ n : Fin 8, wRow (fun k => s (ix3 0 r k)) n * p (ix4 0 r n d) := by
  obtain ⟨a, b, h⟩ := exists_topTwo fun k => s (ix3 0 r k)
  obtain ⟨-, h0, h1⟩ := topK_read s sliceFits_S1x2048x8_S1x2048x2 r a b h
  rw [mixC_read p _ (topI s) r d a b h0 h1, weights_eq s r hs, weights_eq s r hs, pairW_top _ h, pairW_top _ h,
    sum_wRow _ h (hs b).ne_bot]
  rfl

/-- The reference's weighted sum of the two picked expanded rows is the kernel's sum over all eight. -/
theorem mixE_eq (p : FVec Ideal S1x2048x8x768 .f32) (d : Fin 768) :
    mixE p (softPair (topV s)) (topI s) (ix3 0 r d) = ∑ n : Fin 8, wRow (fun k => s (ix3 0 r k)) n * p (ix4 0 r n d) := by
  obtain ⟨a, b, h⟩ := exists_topTwo fun k => s (ix3 0 r k)
  obtain ⟨-, h0, h1⟩ := topK_read s sliceFits_S1x2048x8_S1x2048x2 r a b h
  rw [mixE_read p _ (topI s) r d a b h0 h1, weights_eq s r hs, weights_eq s r hs, pairW_top _ h, pairW_top _ h,
    sum_wRow _ h (hs b).ne_bot]
  rfl

/-- The weighted sum of two picked real rows is real. -/
theorem mixC_real (p : FVec Ideal S1x2048x8x384 .f32) (hp : AllReal p) (d : Fin 384) :
    IsReal (mixC p (softPair (topV s)) (topI s) (ix3 0 r d)) := by
  obtain ⟨a, b, h⟩ := exists_topTwo fun k => s (ix3 0 r k)
  obtain ⟨-, h0, h1⟩ := topK_read s sliceFits_S1x2048x8_S1x2048x2 r a b h
  rw [mixC_read p _ (topI s) r d a b h0 h1, weights_eq s r hs, weights_eq s r hs, pairW_top _ h, pairW_top _ h]
  exact ((wFst_real (hs a) (hs b)).mul (hp _)).add ((wSnd_real (hs a) (hs b)).mul (hp _))

end Cert.ReferenceIdeal.Route
-- ==== Proof.KRun.lean ====
/-
  THE KERNEL PROGRAM'S RUN, with its results: the launch of the program's segments (host operations, the routed compression,
  host attention, the routed expansion, host reshapes), whose every final state holds, in each buffer outside the kernels'
  scratch, the contents `W5` that the segments leave one after the other.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state holds the last segment's contents in each buffer that is not a kernel's scratch. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The results and the arguments after the run: the results as the last host reshapes leave them, the arguments as launched. -/
theorem run : θ_run defs (onTc (τ := τ) (main (F := F))) ⟨m, fun _ => 0, ρ⟩ (fun r => ∀ c : Dev nD,
      r.2.mem ((c.tc : Thread nD τ).loc main_v39) = W5 m ρ c (Proc.devRef .tc main_v39)
      ∧ r.2.mem ((c.tc : Thread nD τ).loc main_v40) = W5 m ρ c (Proc.devRef .tc main_v40)
      ∧ r.2.mem ((c.tc : Thread nD τ).loc main_v41) = W5 m ρ c (Proc.devRef .tc main_v41)
      ∧ r.2.mem ((c.tc : Thread nD τ).loc main_v42) = W5 m ρ c (Proc.devRef .tc main_v42)
      ∧ r.2.mem ((c.tc : Thread nD τ).loc main_v43) = W5 m ρ c (Proc.devRef .tc main_v43)
      ∧ r.2.mem ((c.tc : Thread nD τ).loc main_v44) = W5 m ρ c (Proc.devRef .tc main_v44)
      ∧ r.2.mem ((c.tc : Thread nD τ).loc main_v45) = W5 m ρ c (Proc.devRef .tc main_v45)
      ∧ r.2.mem ((c.tc : Thread nD τ).loc main_v46) = W5 m ρ c (Proc.devRef .tc main_v46)
      ∧ r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v39 (by decide)), h c _ (mem_uc main_v40 (by decide)), h c _ (mem_uc main_v41 (by decide)), h c _ (mem_uc main_v42 (by decide)), h c _ (mem_uc main_v43 (by decide)), h c _ (mem_uc main_v44 (by decide)), h c _ (mem_uc main_v45 (by decide)), h c _ (mem_uc main_v46 (by decide)), h c _ (mem_uc main_v47 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (run_all m ρ)

end Cert.KernelIdeal.Value
-- ==== Proof.Attention.lean ====
/-
  THE ATTENTION OF TWELVE HEADS, as both programs compute it on the host: a function of the query, key and value rows split
  into heads. Of real rows it is real.
-/
module

public import proofs.«01_k».proof.Proof.Gen.ReferenceIdeal
public import proofs.«01_k».proof.Proof.Reals

@[expose] public section

set_option maxRecDepth 16384

noncomputable section

open Idealize.ShloMosaic

namespace Cert.ReferenceIdeal.Route

open Cert.ReferenceIdeal Cert.ReferenceIdeal.Gen Cert.Route

/-- Rows split into heads, the heads before the positions. -/
def heads (x : FVec Ideal S1x2048x12x32 .f32) : FVec Ideal S1x12x2048x32 .f32 :=
  transpose S1x12x2048x32 [0, 2, 1, 3] x transposes_S1x2048x12x32_S1x12x2048x32_0_2_1_3

/-- The scaled scores of every query against every key. -/
def logits (q k : FVec Ideal S1x2048x12x32 .f32) : FVec Ideal S1x12x2048x2048 .f32 :=
  Host.divf (Host.dotGeneral dot_S1x12x2048x32_S1x12x2048x32_S1x12x2048x2048_3_3_2_2_01_01 none (heads q) (heads k))
    (broadcastInDim S1x12x2048x2048 ![] bcast_S_S1x12x2048x2048 (constant S_ .f32 0x40B504F3#32))

/-- The greatest score of every row, from an initial value. -/
def rowTop (l : FVec Ideal S1x12x2048x2048 .f32) (c : FVec Ideal S_ .f32) : FVec Ideal S1x12x2048 .f32 :=
  Host.reduce FloatOps.maximumf l c reducesTo_S1x12x2048x2048_S1x12x2048_d3 h_S_

/-- The same from minus infinity, taken once more against minus infinity. -/
def rowMax (l : FVec Ideal S1x12x2048x2048 .f32) : FVec Ideal S1x12x2048 .f32 :=
  maximumf (broadcastInDim S1x12x2048 ![] bcast_S_S1x12x2048 (constant S_ .f32 0xFF800000#32))
    (rowTop l (constant S_ .f32 0xFF800000#32))

/-- The exponentials of a row's differences from a number per row. -/
def expRow (l : FVec Ideal S1x12x2048x2048 .f32) (m : FVec Ideal S1x12x2048 .f32) : FVec Ideal S1x12x2048x2048 .f32 :=
  Host.exp (subf l (broadcastInDim S1x12x2048x2048 ![0, 1, 2, 3] bcast_S1x12x2048x1_S1x12x2048x2048_0_1_2_3
    (broadcastInDim S1x12x2048x1 ![0, 1, 2] bcast_S1x12x2048_S1x12x2048x1_0_1_2 m)))

/-- A row's exponentials over their sum. -/
def normRow (e : FVec Ideal S1x12x2048x2048 .f32) : FVec Ideal S1x12x2048x2048 .f32 :=
  Host.divf e (broadcastInDim S1x12x2048x2048 ![0, 1, 2, 3] bcast_S1x12x2048x1_S1x12x2048x2048_0_1_2_3
    (broadcastInDim S1x12x2048x1 ![0, 1, 2] bcast_S1x12x2048_S1x12x2048x1_0_1_2
      (Host.reduceAdd e (constant S_ .f32 0x00000000#32) reducesTo_S1x12x2048x2048_S1x12x2048_d3 h_S_)))

/-- Attention of rows split into heads. -/
def attn (q k v : FVec Ideal S1x2048x12x32 .f32) : FVec Ideal S1x2048x12x32 .f32 :=
  transpose S1x2048x12x32 [0, 2, 1, 3]
    (Host.dotGeneral dot_S1x12x2048x2048_S1x12x2048x32_S1x12x2048x32_3_2_2_3_01_01 none (normRow (expRow (logits q k) (rowMax (logits q k)))) (heads v))
    transposes_S1x12x2048x32_S1x2048x12x32_0_2_1_3

/-- The scale, near the square root of thirty-two, is a positive real. -/
theorem scale_pos : IsPos (Ideal.ofBits .f32 0x40B504F3#32) := by
  refine ⟨11863283 / 2097152, by norm_num, ?_⟩
  simp [Ideal.ofBits, Ideal.ieee]
  rw [← EReal.coe_mul]
  norm_num

/-- The word of minus infinity. -/
theorem ofBits_inf : Ideal.ofBits .f32 0xFF800000#32 = ⊥ := by simp [Ideal.ofBits, Ideal.ieee]

/-- The logits of real heads are real. -/
theorem logits_real (q k : FVec Ideal S1x2048x12x32 .f32) (hq : AllReal q) (hk : AllReal k) : AllReal (logits q k) := fun i =>
  IsReal.div (AllReal.dotGeneral _ _ _ (hq.transpose _ _ _) (hk.transpose _ _ _) i) scale_pos

/-- The maximum of a row of reals, from minus infinity, is real. -/
theorem rowTop_real (l : FVec Ideal S1x12x2048x2048 .f32) (hl : AllReal l) (c : FVec Ideal S_ .f32)
    (hc : c (Shape.Idx.first h_S_) = ⊥) (h : Fin 12) (q : Fin 2048) : IsReal (rowTop l c (ix3 0 h q)) := by
  have e : rowTop l c (ix3 0 h q) = Finset.univ.fold max (c (Shape.Idx.first h_S_)) fun x : Fin 2048 => l (ix4 0 h q x) := by
    unfold rowTop
    simp only [pointwise]
  rw [e, hc]
  exact isReal_fold_max q (fun x => l (ix4 0 h q x)) fun x => hl (ix4 0 h q x)

/-- The constant minus infinity, at its one index. -/
theorem const_inf : (constant S_ .f32 0xFF800000#32 : FVec Ideal S_ .f32) (Shape.Idx.first h_S_) = ⊥ := ofBits_inf

/-- A real array taken against minus infinity is real. -/
theorem maxBot_real (y : FVec Ideal S1x12x2048 .f32) (hy : AllReal y) :
    AllReal (maximumf (broadcastInDim S1x12x2048 ![] bcast_S_S1x12x2048 (constant S_ .f32 0xFF800000#32)) y) := by
  intro i
  idx_vars i
  pointwise
  rw [ofBits_inf, max_eq_right bot_le]
  exact hy _

/-- The same maximum at every index. -/
theorem rowTop_allReal (l : FVec Ideal S1x12x2048x2048 .f32) (hl : AllReal l) (c : FVec Ideal S_ .f32)
    (hc : c (Shape.Idx.first h_S_) = ⊥) : AllReal (rowTop l c) := by
  intro i
  idx_vars i
  rw [Subsingleton.elim i0 0]
  exact rowTop_real l hl c hc i1 i2

/-- The row maxima of real logits are real. -/
theorem rowMax_real (l : FVec Ideal S1x12x2048x2048 .f32) (h : AllReal l) : AllReal (rowMax l) :=
  maxBot_real _ (rowTop_allReal l h _ const_inf)

/-- The exponentials of real logits less real maxima are positive. -/
theorem expRow_pos (l : FVec Ideal S1x12x2048x2048 .f32) (m : FVec Ideal S1x12x2048 .f32) (h : AllReal l) (hm : AllReal m) (i) :
    IsPos (expRow l m i) := by
  idx_vars i
  pointwise [expRow]
  exact IsReal.exp ((h _).sub (hm _))

/-- Positive rows divided by their sums are real. -/
theorem normRow_real (e : FVec Ideal S1x12x2048x2048 .f32) (h : ∀ i, IsPos (e i)) : AllReal (normRow e) := by
  intro i
  idx_vars i
  pointwise [normRow]
  exact (h _).real.div (isPos_sum i3 _ fun _ => h _)

/-- Attention of real rows is real. -/
theorem attn_real (q k v : FVec Ideal S1x2048x12x32 .f32) (hq : AllReal q) (hk : AllReal k) (hv : AllReal v) : AllReal (attn q k v) :=
  (AllReal.dotGeneral _ _ _ (normRow_real _ (expRow_pos _ _ (logits_real q k hq hk) (rowMax_real _ (logits_real q k hq hk)))) (hv.transpose _ _ _)).transpose _ _ _

end Cert.ReferenceIdeal.Route
-- ==== Proof.Entry.lean ====
/-
  WHAT THE ARRAYS OF THE KERNEL PROGRAM HOLD: on entry to each of the two kernels, between them, and at the end, in terms
  of the arguments.
-/
module

public import proofs.«01_k».proof.Proof.Arrays
public import proofs.«01_k».proof.Proof.KRun
public import proofs.«01_k».proof.Proof.Attention
public import proofs.«01_k».proof.Proof.Gen.ReferenceIdeal.Read
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen
open Cert.ReferenceIdeal.Read (val_main_v1 val_main_v83)
open Cert.ReferenceIdeal.Route (attn)

variable (m : (ℓ : Loc nD τ sig) → Buf (Elt Ideal) ℓ) (ρ : Dev nD → PrngReg) (c : Dev nD)

/-- The launch contents of an argument array. -/
abbrev arg (b : Ref sig .tc) : Buf (Elt Ideal) ((c : Thread nD τ).loc b) := m ((c : Thread nD τ).loc b)

/-! ## On entry to the first kernel -/

/-- The first kernel is entered with the query scores, row by row. -/
theorem in_v2 : V1 m ρ c main_v2 = shapeCast S2048x8 (val_main_v1 (arg m c main_arg0) (arg m c main_arg3)) shapeCasts_S1x2048x8_S2048x8 := by
  show StableHlo.after hostOps0 (W0 m ρ c) (Proc.devRef .tc main_v2) = _
  entry_read
  rfl

/-- The first kernel is entered with the key scores, row by row. -/
theorem in_v5 : V1 m ρ c main_v5 = shapeCast S2048x8 (val_main_v1 (arg m c main_arg0) (arg m c main_arg4)) shapeCasts_S1x2048x8_S2048x8 := by
  show StableHlo.after hostOps0 (W0 m ρ c) (Proc.devRef .tc main_v5) = _
  entry_read
  rfl

/-- The first kernel is entered with the value scores, row by row. -/
theorem in_v8 : V1 m ρ c main_v8 = shapeCast S2048x8 (val_main_v1 (arg m c main_arg0) (arg m c main_arg5)) shapeCasts_S1x2048x8_S2048x8 := by
  show StableHlo.after hostOps0 (W0 m ρ c) (Proc.devRef .tc main_v8) = _
  entry_read
  rfl

/-- The first kernel is entered with the rows of the input. -/
theorem in_v9 : V1 m ρ c main_v9 = shapeCast S2048x768 (arg m c main_arg0) shapeCasts_S1x2048x768_S2048x768 := by
  show StableHlo.after hostOps0 (W0 m ρ c) (Proc.devRef .tc main_v9) = _
  entry_read
  rfl

/-- The first kernel is entered with the compressing neurons as launched. -/
theorem in_arg1 : V1 m ρ c main_arg1 = arg m c main_arg1 := W1_args m ρ c main_arg1 (by decide)

/-! ## After the first kernel -/

/-- A route's mixture array over the scores of the weights `w`. -/
abbrev mixOf (w : FVec Ideal S8x768 .f32) : FVec Ideal S2048x384 .f32 :=
  mixC (shapeCast S2048x8 (val_main_v1 (arg m c main_arg0) w) shapeCasts_S1x2048x8_S2048x8)
    (shapeCast S2048x768 (arg m c main_arg0) shapeCasts_S1x2048x768_S2048x768) (arg m c main_arg1)

/-- The first kernel leaves the query mixture. -/
theorem out_q : W2 m ρ c (Proc.devRef .tc main_v10_0) = mixOf m c (arg m c main_arg3) := by
  refine (W2_arr m ρ c 5).trans ((arr_q (V1 m ρ) c).trans ?_)
  rw [in_v2, in_v9, in_arg1]

/-- The first kernel leaves the key mixture. -/
theorem out_k : W2 m ρ c (Proc.devRef .tc main_v10_1) = mixOf m c (arg m c main_arg4) := by
  refine (W2_arr m ρ c 6).trans ((arr_k (V1 m ρ) c).trans ?_)
  rw [in_v5, in_v9, in_arg1]

/-- The first kernel leaves the value mixture. -/
theorem out_v : W2 m ρ c (Proc.devRef .tc main_v10_2) = mixOf m c (arg m c main_arg5) := by
  refine (W2_arr m ρ c 7).trans ((arr_v (V1 m ρ) c).trans ?_)
  rw [in_v8, in_v9, in_arg1]

/-- A route's scores, row by row. -/
abbrev scoreOf (w : FVec Ideal S8x768 .f32) : FVec Ideal S2048x8 .f32 :=
  shapeCast S2048x8 (val_main_v1 (arg m c main_arg0) w) shapeCasts_S1x2048x8_S2048x8

/-- The first kernel leaves the query weights. -/
theorem out_qw : W2 m ρ c (Proc.devRef .tc main_v10_3) = allW (scoreOf m c (arg m c main_arg3)) := by
  refine (W2_arr m ρ c 8).trans ((arr_qw (V1 m ρ) c).trans ?_); rw [in_v2]
/-- The first kernel leaves the query indices. -/
theorem out_qi : W2 m ρ c (Proc.devRef .tc main_v10_4) = allI (scoreOf m c (arg m c main_arg3)) := by
  refine (W2_arr m ρ c 9).trans ((arr_qi (V1 m ρ) c).trans ?_); rw [in_v2]
/-- The first kernel leaves the key weights. -/
theorem out_kw : W2 m ρ c (Proc.devRef .tc main_v10_5) = allW (scoreOf m c (arg m c main_arg4)) := by
  refine (W2_arr m ρ c 10).trans ((arr_kw (V1 m ρ) c).trans ?_); rw [in_v5]
/-- The first kernel leaves the key indices. -/
theorem out_ki : W2 m ρ c (Proc.devRef .tc main_v10_6) = allI (scoreOf m c (arg m c main_arg4)) := by
  refine (W2_arr m ρ c 11).trans ((arr_ki (V1 m ρ) c).trans ?_); rw [in_v5]
/-- The first kernel leaves the value weights. -/
theorem out_vw : W2 m ρ c (Proc.devRef .tc main_v10_7) = allW (scoreOf m c (arg m c main_arg5)) := by
  refine (W2_arr m ρ c 12).trans ((arr_vw (V1 m ρ) c).trans ?_); rw [in_v8]
/-- The first kernel leaves the value indices. -/
theorem out_vi : W2 m ρ c (Proc.devRef .tc main_v10_8) = allI (scoreOf m c (arg m c main_arg5)) := by
  refine (W2_arr m ρ c 13).trans ((arr_vi (V1 m ρ) c).trans ?_); rw [in_v8]

/-! ## On entry to the second kernel -/

/-- The attention of three mixture arrays. -/
abbrev attnOf (q k v : FVec Ideal S2048x384 .f32) : FVec Ideal S1x2048x12x32 .f32 :=
  attn (shapeCast S1x2048x12x32 q shapeCasts_S2048x384_S1x2048x12x32) (shapeCast S1x2048x12x32 k shapeCasts_S2048x384_S1x2048x12x32)
    (shapeCast S1x2048x12x32 v shapeCasts_S2048x384_S1x2048x12x32)

/-- The attended rows. -/
abbrev attended : FVec Ideal S2048x384 .f32 :=
  shapeCast S2048x384 (attnOf (mixOf m c (arg m c main_arg3)) (mixOf m c (arg m c main_arg4)) (mixOf m c (arg m c main_arg5)))
    shapeCasts_S1x2048x12x32_S2048x384

/-- The second kernel is entered with the attended rows. -/
theorem in_v33 : V3 m ρ c main_v33 = attended m c := by
  unfold attended
  rw [← out_q m ρ c, ← out_k m ρ c, ← out_v m ρ c]
  show StableHlo.after hostOps1 (W2 m ρ c) (Proc.devRef .tc main_v33) = _
  entry_read
  rfl

/-- The output scores of attended rows `a` by the weights `w`. -/
def soScore (a : FVec Ideal S1x2048x384 .f32) (w : FVec Ideal S8x384 .f32) : FVec Ideal S1x2048x8 .f32 :=
  Host.dotGeneral (F := Ideal) dot_S1x2048x384_S384x8_S1x2048x8_2_0_01_1_n_n none a
    (transpose S384x8 [1, 0] w transposes_S8x384_S384x8_1_0 : FVec Ideal S384x8 .f32)

/-- The output scores, row by row. -/
abbrev scoreO : FVec Ideal S2048x8 .f32 :=
  shapeCast S2048x8 (soScore (shapeCast S1x2048x384 (attended m c) shapeCasts_S2048x384_S1x2048x384) (arg m c main_arg6))
    shapeCasts_S1x2048x8_S2048x8

/-- The second kernel is entered with the output scores, row by row. -/
theorem in_v37 : V3 m ρ c main_v37 = scoreO m c := by
  unfold scoreO attended
  rw [← out_q m ρ c, ← out_k m ρ c, ← out_v m ρ c,
    show arg m c main_arg6 = W2 m ρ c (Proc.devRef .tc main_arg6) from (W2_args m ρ c main_arg6 (by decide)).symm]
  show StableHlo.after hostOps1 (W2 m ρ c) (Proc.devRef .tc main_v37) = _
  entry_read
  rfl

/-- The second kernel is entered with the expanding neurons as launched. -/
theorem in_arg2 : V3 m ρ c main_arg2 = arg m c main_arg2 := W3_args m ρ c main_arg2 (by decide)

/-! ## The results -/

/-- The output result is the mixture of the expanded attended rows by the output scores. -/
theorem res_out : W5 m ρ c (Proc.devRef .tc main_v39)
    = shapeCast S1x2048x768 (mixE (scoreO m c) (attended m c) (arg m c main_arg2)) shapeCasts_S2048x768_S1x2048x768 := by
  rw [← in_v33 m ρ c, ← in_v37 m ρ c, ← in_arg2 m ρ c, ← arr_o (V3 m ρ) c]
  show StableHlo.after hostOps2 (W4 m ρ c) (Proc.devRef .tc main_v39) = _
  entry_read
  exact congrArg (fun z : FVec Ideal S2048x768 .f32 => shapeCast S1x2048x768 z shapeCasts_S2048x768_S1x2048x768) (W4_arr m ρ c 3)

/-- The output weights result is the pair of weights of every row of output scores. -/
theorem res_ow : W5 m ρ c (Proc.devRef .tc main_v46) = shapeCast S1x2048x2 (allW (scoreO m c)) shapeCasts_S2048x2_S1x2048x2 := by
  rw [← in_v37 m ρ c, ← arr_ow (V3 m ρ) c]
  show StableHlo.after hostOps2 (W4 m ρ c) (Proc.devRef .tc main_v46) = _
  entry_read
  exact congrArg (fun z : FVec Ideal S2048x2 .f32 => shapeCast S1x2048x2 z shapeCasts_S2048x2_S1x2048x2) (W4_arr m ρ c 4)

/-- The output indices result is the pair of indices of every row of output scores. -/
theorem res_oi : W5 m ρ c (Proc.devRef .tc main_v47) = shapeCast S1x2048x2 (allI (scoreO m c)) shapeCasts_S2048x2_S1x2048x2 := by
  rw [← in_v37 m ρ c, ← arr_oi (V3 m ρ) c]
  show StableHlo.after hostOps2 (W4 m ρ c) (Proc.devRef .tc main_v47) = _
  entry_read
  exact congrArg (fun z : IVec S2048x2 32 => shapeCast S1x2048x2 z shapeCasts_S2048x2_S1x2048x2) (W4_arr m ρ c 5)

/-- What the second kernel and the host lines before it leave alone. -/
theorem kept (b : Ref sig .tc) (h1 : ∀ w, Pipeline.arrRef spec1 w ≠ b) (h2 : b ∉ hostOps1_W) :
    W4 m ρ c (Proc.devRef .tc b) = W2 m ρ c (Proc.devRef .tc b) :=
  (W4_of_ne m ρ c b h1).trans (W3_of m ρ c b h2)

/-- The query weights result is the pair of weights of every row of query scores. -/
theorem res_qw : W5 m ρ c (Proc.devRef .tc main_v40)
    = shapeCast S1x2048x2 (allW (scoreOf m c (arg m c main_arg3))) shapeCasts_S2048x2_S1x2048x2 := by
  rw [← out_qw m ρ c, ← kept m ρ c main_v10_3 (by decide +kernel) (by decide +kernel)]
  show StableHlo.after hostOps2 (W4 m ρ c) (Proc.devRef .tc main_v40) = _
  entry_read
  rfl

/-- The query indices result is the pair of indices of every row of query scores. -/
theorem res_qi : W5 m ρ c (Proc.devRef .tc main_v41)
    = shapeCast S1x2048x2 (allI (scoreOf m c (arg m c main_arg3))) shapeCasts_S2048x2_S1x2048x2 := by
  rw [← out_qi m ρ c, ← kept m ρ c main_v10_4 (by decide +kernel) (by decide +kernel)]
  show StableHlo.after hostOps2 (W4 m ρ c) (Proc.devRef .tc main_v41) = _
  entry_read
  rfl

/-- The key weights result is the pair of weights of every row of key scores. -/
theorem res_kw : W5 m ρ c (Proc.devRef .tc main_v42)
    = shapeCast S1x2048x2 (allW (scoreOf m c (arg m c main_arg4))) shapeCasts_S2048x2_S1x2048x2 := by
  rw [← out_kw m ρ c, ← kept m ρ c main_v10_5 (by decide +kernel) (by decide +kernel)]
  show StableHlo.after hostOps2 (W4 m ρ c) (Proc.devRef .tc main_v42) = _
  entry_read
  rfl

/-- The key indices result is the pair of indices of every row of key scores. -/
theorem res_ki : W5 m ρ c (Proc.devRef .tc main_v43)
    = shapeCast S1x2048x2 (allI (scoreOf m c (arg m c main_arg4))) shapeCasts_S2048x2_S1x2048x2 := by
  rw [← out_ki m ρ c, ← kept m ρ c main_v10_6 (by decide +kernel) (by decide +kernel)]
  show StableHlo.after hostOps2 (W4 m ρ c) (Proc.devRef .tc main_v43) = _
  entry_read
  rfl

/-- The value weights result is the pair of weights of every row of value scores. -/
theorem res_vw : W5 m ρ c (Proc.devRef .tc main_v44)
    = shapeCast S1x2048x2 (allW (scoreOf m c (arg m c main_arg5))) shapeCasts_S2048x2_S1x2048x2 := by
  rw [← out_vw m ρ c, ← kept m ρ c main_v10_7 (by decide +kernel) (by decide +kernel)]
  show StableHlo.after hostOps2 (W4 m ρ c) (Proc.devRef .tc main_v44) = _
  entry_read
  rfl

/-- The value indices result is the pair of indices of every row of value scores. -/
theorem res_vi : W5 m ρ c (Proc.devRef .tc main_v45)
    = shapeCast S1x2048x2 (allI (scoreOf m c (arg m c main_arg5))) shapeCasts_S2048x2_S1x2048x2 := by
  rw [← out_vi m ρ c, ← kept m ρ c main_v10_8 (by decide +kernel) (by decide +kernel)]
  show StableHlo.after hostOps2 (W4 m ρ c) (Proc.devRef .tc main_v45) = _
  entry_read
  rfl

end Cert.KernelIdeal.Value
-- ==== Proof.Links.lean ====
/-
  THE REFERENCE IN FOUR FUNCTIONS: each value the reference computes is one of the routes, the attention or the output scores
  of Route, applied to earlier values.
-/
module

public import proofs.«01_k».proof.Proof.RouteEq
public import proofs.«01_k».proof.Proof.Entry

@[expose] public section

set_option maxRecDepth 16384

noncomputable section

open Idealize.ShloMosaic

namespace Cert.ReferenceIdeal.Route

open Cert.ReferenceIdeal Cert.ReferenceIdeal.Gen Cert.ReferenceIdeal.Read
open Cert.KernelIdeal.Value (soScore)

variable (x : FVec Ideal S1x2048x768 .f32) (C : FVec Ideal S8x768x384 .f32) (E : FVec Ideal S8x384x768 .f32)
  (wq wk wv : FVec Ideal S8x768 .f32) (wo : FVec Ideal S8x384 .f32)

/-- The scores of the rows of `x` by the weights `w`. -/
def scores (w : FVec Ideal S8x768 .f32) : FVec Ideal S1x2048x8 .f32 := val_main_v1 (F := Ideal) x w

/-- The routed mixture of the rows of `x` by the weights `w`. -/
def mixed (w : FVec Ideal S8x768 .f32) : FVec Ideal S1x2048x384 .f32 :=
  mixC (val_main_v13 (F := Ideal) x C) (softPair (topV (scores x w))) (topI (scores x w))

/-- The mixture with its row cut into twelve heads. -/
def headsOf (w : FVec Ideal S8x768 .f32) : FVec Ideal S1x2048x12x32 .f32 :=
  shapeCast S1x2048x12x32 (mixed x C w) shapeCasts_S1x2048x384_S1x2048x12x32

/-- The attended rows. -/
def context : FVec Ideal S1x2048x384 .f32 :=
  shapeCast S1x2048x384 (attn (headsOf x C wq) (headsOf x C wk) (headsOf x C wv)) shapeCasts_S1x2048x12x32_S1x2048x384

/-- The products of attended rows with each of the eight expanding neurons. -/
def expanded (a : FVec Ideal S1x2048x384 .f32) : FVec Ideal S1x2048x8x768 .f32 :=
  Host.dotGeneral (F := Ideal) dot_S1x2048x384_S8x384x768_S1x2048x8x768_2_1_01_02_n_n none a E

/-- The query weights of the reference are the softmax of the two greatest query scores. -/
theorem link_qw : val_main_v12 (F := Ideal) x wq = softPair (topV (scores x wq)) := rfl
/-- The query indices of the reference are the places of the two greatest query scores. -/
theorem link_qi : val_main_indices (F := Ideal) x wq = topI (scores x wq) := rfl
/-- The key weights of the reference are the softmax of the two greatest key scores. -/
theorem link_kw : val_main_v32 (F := Ideal) x wk = softPair (topV (scores x wk)) := rfl
/-- The key indices of the reference are the places of the two greatest key scores. -/
theorem link_ki : val_main_indices_4 (F := Ideal) x wk = topI (scores x wk) := rfl
/-- The value weights of the reference are the softmax of the two greatest value scores. -/
theorem link_vw : val_main_v52 (F := Ideal) x wv = softPair (topV (scores x wv)) := rfl
/-- The value indices of the reference are the places of the two greatest value scores. -/
theorem link_vi : val_main_indices_10 (F := Ideal) x wv = topI (scores x wv) := rfl

/-- The query array of the reference is the routed mixture by the query router's weights. -/
theorem link_q : val_main_v19 (F := Ideal) x C wq = mixed x C wq := rfl
/-- The key array of the reference is the routed mixture by the key router's weights. -/
theorem link_k : val_main_v39 (F := Ideal) x C wk = mixed x C wk := rfl
/-- The value array of the reference is the routed mixture by the value router's weights. -/
theorem link_v : val_main_v59 (F := Ideal) x C wv = mixed x C wv := rfl

/-- The attention of the reference is that of the three mixtures, cut into heads. -/
theorem link_attn : val_main_v81 (F := Ideal) x C wq wk wv
    = attn (shapeCast S1x2048x12x32 (val_main_v19 (F := Ideal) x C wq) shapeCasts_S1x2048x384_S1x2048x12x32)
        (shapeCast S1x2048x12x32 (val_main_v39 (F := Ideal) x C wk) shapeCasts_S1x2048x384_S1x2048x12x32)
        (shapeCast S1x2048x12x32 (val_main_v59 (F := Ideal) x C wv) shapeCasts_S1x2048x384_S1x2048x12x32) := rfl

/-- The attended rows of the reference are the attention with its heads joined. -/
theorem link_context : val_main_v82 (F := Ideal) x C wq wk wv = context x C wq wk wv := by
  unfold val_main_v82 context headsOf
  rw [link_attn, link_q, link_k, link_v]

/-- The output scores of the attended rows. -/
def scoresO : FVec Ideal S1x2048x8 .f32 := soScore (context x C wq wk wv) wo

/-- The output scores of the reference are those of its attended rows. -/
theorem link_so : val_main_v84 (F := Ideal) x C wq wk wv wo = scoresO x C wq wk wv wo := by
  unfold val_main_v84 scoresO
  rw [link_context]
  rfl

/-- The output weights of the reference are the softmax of the two greatest output scores. -/
theorem link_ow : val_main_v95 (F := Ideal) x C wq wk wv wo = softPair (topV (scoresO x C wq wk wv wo)) := by
  rw [← link_so]; rfl
/-- The output indices of the reference are the places of the two greatest output scores. -/
theorem link_oi : val_main_indices_20 (F := Ideal) x C wq wk wv wo = topI (scoresO x C wq wk wv wo) := by
  rw [← link_so]; rfl
/-- The output of the reference is the routed mixture of the expanded attended rows. -/
theorem link_out : val_main_v102 (F := Ideal) x C E wq wk wv wo
    = mixE (expanded E (context x C wq wk wv)) (softPair (topV (scoresO x C wq wk wv wo))) (topI (scoresO x C wq wk wv wo)) := by
  rw [← link_ow, ← link_oi, ← link_context]; rfl

end Cert.ReferenceIdeal.Route
-- ==== Proof.Same.lean ====
/-
  THE TWO PROGRAMS' RESULTS ARE THE SAME ARRAYS, for real arguments: the mixtures, then the attended rows, then the output
  scores, then the nine results.
-/
module

public import proofs.«01_k».proof.Proof.Links

@[expose] public section

set_option maxRecDepth 16384

noncomputable section

open Idealize.ShloMosaic

namespace Cert.ReferenceIdeal.Route

open Cert.ReferenceIdeal Cert.ReferenceIdeal.Gen Cert.ReferenceIdeal.Read Cert.Route
open Cert.KernelIdeal.Value (soScore allW allI pairW pairI wRow attnOf)
open Cert.KernelIdeal.Gen (shapeCasts_S1x2048x8_S2048x8 shapeCasts_S1x2048x768_S2048x768 shapeCasts_S2048x384_S1x2048x12x32
  shapeCasts_S1x2048x12x32_S2048x384 shapeCasts_S2048x384_S1x2048x384 shapeCasts_S2048x768_S1x2048x768 shapeCasts_S2048x2_S1x2048x2)
open Cert.KernelIdeal (S2048x8 S2048x768 S2048x384 S2048x2)

/-- A row of flattened scores is a row of scores. -/
theorem flat8 (s : FVec Ideal S1x2048x8 .f32) (r : Fin 2048) (k : Fin 8) :
    shapeCast S2048x8 s shapeCasts_S1x2048x8_S2048x8 (ix2 r k) = s (ix3 0 r k) := by pointwise

/-- A row of flattened compressed rows is a compressed row. -/
theorem flat384 (y : FVec Ideal S1x2048x384 .f32) (h : S1x2048x384.ShapeCasts S2048x384) (r : Fin 2048) (d : Fin 384) :
    shapeCast S2048x384 y h (ix2 r d) = y (ix3 0 r d) := by pointwise

/-- The product of a compressing neuron with a row. -/
theorem proj_read (x : FVec Ideal S1x2048x768 .f32) (C : FVec Ideal S8x768x384 .f32) (r : Fin 2048) (n : Fin 8) (d : Fin 384) :
    val_main_v13 (F := Ideal) x C (ix4 0 r n d) = ∑ k : Fin 768, x (ix3 0 r k) * C (ix3 n k d) := by
  pointwise [val_main_v13]

/-- The product of an expanding neuron with a row. -/
theorem expanded_read (E : FVec Ideal S8x384x768 .f32) (a : FVec Ideal S1x2048x384 .f32) (r : Fin 2048) (n : Fin 8) (d : Fin 768) :
    expanded E a (ix4 0 r n d) = ∑ k : Fin 384, a (ix3 0 r k) * E (ix3 n k d) := by
  pointwise [expanded]

/-! ## One route over real scores -/

section OneRoute

variable (s : FVec Ideal S1x2048x8 .f32) (hs : AllReal s)
include hs

/-- The kernel's pairs of weights are the reference's. -/
theorem allW_same : shapeCast S1x2048x2 (allW (shapeCast S2048x8 s shapeCasts_S1x2048x8_S2048x8)) shapeCasts_S2048x2_S1x2048x2
    = softPair (topV s) := by
  funext i
  idx_vars i
  obtain rfl := Subsingleton.elim i0 0
  rw [weights_eq s _ fun k => hs _]
  pointwise [allW]

/-- The kernel's pairs of indices are the reference's. -/
theorem allI_same : shapeCast S1x2048x2 (allI (shapeCast S2048x8 s shapeCasts_S1x2048x8_S2048x8)) shapeCasts_S2048x2_S1x2048x2
    = topI s := by
  funext i
  idx_vars i
  obtain rfl := Subsingleton.elim i0 0
  rw [indices_eq s _ fun k => hs _]
  pointwise [allI]

/-- The kernel's mixture of compressed rows is the reference's. -/
theorem mixC_same (x : FVec Ideal S1x2048x768 .f32) (C : FVec Ideal S8x768x384 .f32) :
    Cert.KernelIdeal.Value.mixC (shapeCast S2048x8 s shapeCasts_S1x2048x8_S2048x8)
      (shapeCast S2048x768 x shapeCasts_S1x2048x768_S2048x768) C
    = shapeCast S2048x384 (mixC (val_main_v13 (F := Ideal) x C) (softPair (topV s)) (topI s)) (by decide) := by
  funext i
  idx_vars i
  rw [flat384, mixC_eq s _ fun k => hs _]
  simp only [proj_read]
  pointwise [Cert.KernelIdeal.Value.mixC]

/-- The kernel's mixture of expanded rows is the reference's. -/
theorem mixE_same (a : FVec Ideal S1x2048x384 .f32) (E : FVec Ideal S8x384x768 .f32) (h : S1x2048x384.ShapeCasts S2048x384) :
    shapeCast S1x2048x768 (Cert.KernelIdeal.Value.mixE (shapeCast S2048x8 s shapeCasts_S1x2048x8_S2048x8)
      (shapeCast S2048x384 a h) E) shapeCasts_S2048x768_S1x2048x768
    = mixE (expanded E a) (softPair (topV s)) (topI s) := by
  funext i
  idx_vars i
  obtain rfl := Subsingleton.elim i0 0
  rw [mixE_eq s _ fun k => hs _]
  simp only [expanded_read]
  pointwise [Cert.KernelIdeal.Value.mixE]

end OneRoute

/-! ## The whole computation over real arguments -/

section Whole

variable (x : FVec Ideal S1x2048x768 .f32) (C : FVec Ideal S8x768x384 .f32) (E : FVec Ideal S8x384x768 .f32)
  (wq wk wv : FVec Ideal S8x768 .f32) (wo : FVec Ideal S8x384 .f32)

/-- The scores of real rows are real. -/
theorem scores_real (w : FVec Ideal S8x768 .f32) (hx : AllReal x) (hw : AllReal w) : AllReal (scores x w) :=
  AllReal.dotGeneral _ _ _ hx (hw.transpose _ _ _)

/-- The mixture of real rows is real. -/
theorem mixed_real (w : FVec Ideal S8x768 .f32) (hx : AllReal x) (hC : AllReal C) (hw : AllReal w) : AllReal (mixed x C w) := by
  intro i
  idx_vars i
  obtain rfl := Subsingleton.elim i0 0
  exact mixC_real _ _ (fun k => scores_real x w hx hw _) _ (AllReal.dotGeneral _ _ _ hx hC) _

/-- The attended rows of real arguments are real. -/
theorem context_real (hx : AllReal x) (hC : AllReal C) (hq : AllReal wq) (hk : AllReal wk) (hv : AllReal wv) :
    AllReal (context x C wq wk wv) :=
  (attn_real _ _ _ ((mixed_real x C wq hx hC hq).shapeCast _ _) ((mixed_real x C wk hx hC hk).shapeCast _ _)
    ((mixed_real x C wv hx hC hv).shapeCast _ _)).shapeCast _ _

/-- The output scores of real arguments are real. -/
theorem scoresO_real (hx : AllReal x) (hC : AllReal C) (hq : AllReal wq) (hk : AllReal wk) (hv : AllReal wv) (ho : AllReal wo) :
    AllReal (scoresO x C wq wk wv wo) :=
  AllReal.dotGeneral _ _ _ (context_real x C wq wk wv hx hC hq hk hv) (ho.transpose _ _ _)

/-- Cutting the heads of a flattened array is cutting the heads of the array. -/
theorem recut (y : FVec Ideal S1x2048x384 .f32) (h : S1x2048x384.ShapeCasts S2048x384) :
    shapeCast S1x2048x12x32 (shapeCast S2048x384 y h) shapeCasts_S2048x384_S1x2048x12x32
      = shapeCast S1x2048x12x32 y shapeCasts_S1x2048x384_S1x2048x12x32 := by
  funext i
  idx_vars i
  pointwise

/-- Flattening heads is flattening the rows of joined heads. -/
theorem rejoin (y : FVec Ideal S1x2048x12x32 .f32) (h : S1x2048x384.ShapeCasts S2048x384) :
    shapeCast S2048x384 y shapeCasts_S1x2048x12x32_S2048x384
      = shapeCast S2048x384 (shapeCast S1x2048x384 y shapeCasts_S1x2048x12x32_S1x2048x384) h := by
  funext i
  idx_vars i
  pointwise

/-- Unflattening a flattened array gives it back. -/
theorem unflat (y : FVec Ideal S1x2048x384 .f32) (h : S1x2048x384.ShapeCasts S2048x384) :
    shapeCast S1x2048x384 (shapeCast S2048x384 y h) shapeCasts_S2048x384_S1x2048x384 = y := by
  funext i
  idx_vars i
  pointwise

/-- The kernel's attention of its three mixtures is the reference's attended rows, flattened. -/
theorem attended_same (h : S1x2048x384.ShapeCasts S2048x384) (hx : AllReal x) (hq : AllReal wq) (hk : AllReal wk) (hv : AllReal wv) :
    shapeCast S2048x384 (attnOf
        (Cert.KernelIdeal.Value.mixC (shapeCast S2048x8 (scores x wq) shapeCasts_S1x2048x8_S2048x8)
          (shapeCast S2048x768 x shapeCasts_S1x2048x768_S2048x768) C)
        (Cert.KernelIdeal.Value.mixC (shapeCast S2048x8 (scores x wk) shapeCasts_S1x2048x8_S2048x8)
          (shapeCast S2048x768 x shapeCasts_S1x2048x768_S2048x768) C)
        (Cert.KernelIdeal.Value.mixC (shapeCast S2048x8 (scores x wv) shapeCasts_S1x2048x8_S2048x8)
          (shapeCast S2048x768 x shapeCasts_S1x2048x768_S2048x768) C)) shapeCasts_S1x2048x12x32_S2048x384
      = shapeCast S2048x384 (context x C wq wk wv) h := by
  rw [mixC_same _ (scores_real x wq hx hq), mixC_same _ (scores_real x wk hx hk), mixC_same _ (scores_real x wv hx hv), rejoin _ h]
  unfold attnOf
  rw [recut, recut, recut]
  rfl

end Whole

end Cert.ReferenceIdeal.Route
-- ==== Proof.Final.lean ====
/-
  THE CLAIMS: the frame of the reference, and that the kernel program and the reference end with the same nine results over
  finite arguments.
-/
module

public import proofs.«01_k».proof.Defs
public import proofs.«01_k».proof.Proof.Same
public import proofs.«01_k».proof.Proof.Gen.ReferenceIdeal.Run
public import proofs.«01_k».proof.Proof.Gen.Pre_finite_inputs
public import Idealize.ShloMosaic.Lib.Quiescent

@[expose] public section

set_option maxRecDepth 16384

noncomputable section

open Idealize.ShloMosaic Idealize.ShloMosaic.TcCoe Idealize.SL.Sem

namespace Cert.Final

open Cert.Route Cert.ReferenceIdeal.Route
open Cert.KernelIdeal.Value (arg attended scoreO)

/-- An array that compares below infinity in absolute value, everywhere, is real. -/
theorem real_of_finite {s : Shape} (x : FVec Ideal s .f32) (b : FVec Ideal s .f32) (hb : ∀ i, b i = ⊤)
    (h : cmpf .olt (Host.absf x) b = fun _ => 1#1) : AllReal x := by
  intro i
  have hi := congrFun h i
  apply isReal_of_abs
  by_contra hn
  have : cmpf .olt (Host.absf x) b i = BitVec.ofBool (decide (max (x i) (-(x i)) < b i)) := rfl
  rw [this, hb i, decide_eq_false hn] at hi
  exact absurd hi (by decide)

/-- The word of positive infinity is the greatest extended real. -/
theorem ofBits_top : Ideal.ofBits .f32 0x7F800000#32 = ⊤ := by simp [Ideal.ofBits, Ideal.ieee]

/-- What the precondition says of six of the arguments of the kernel program. -/
theorem real_args (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    AllReal (φ := .f32) (arg m c Cert.KernelIdeal.main_arg0) ∧ AllReal (φ := .f32) (arg m c Cert.KernelIdeal.main_arg1)
      ∧ AllReal (φ := .f32) (arg m c Cert.KernelIdeal.main_arg3) ∧ AllReal (φ := .f32) (arg m c Cert.KernelIdeal.main_arg4)
      ∧ AllReal (φ := .f32) (arg m c Cert.KernelIdeal.main_arg5) ∧ AllReal (φ := .f32) (arg m c Cert.KernelIdeal.main_arg6) := by
  obtain ⟨h0, h1, h3, h4, h5, h6⟩ := h c
  exact ⟨real_of_finite _ _ (fun _ => ofBits_top) h0, real_of_finite _ _ (fun _ => ofBits_top) h1,
    real_of_finite _ _ (fun _ => ofBits_top) h3, real_of_finite _ _ (fun _ => ofBits_top) h4,
    real_of_finite _ _ (fun _ => ofBits_top) h5, real_of_finite _ _ (fun _ => ofBits_top) h6⟩

section Results

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD) (h : Cert.Pre_KernelIdeal_finite_inputs m)
include h

/-- The attended rows of the kernel program are the reference's, flattened. -/
theorem same_attended : attended m c = shapeCast Cert.KernelIdeal.S2048x384
    (context (arg m c Cert.KernelIdeal.main_arg0) (arg m c Cert.KernelIdeal.main_arg1) (arg m c Cert.KernelIdeal.main_arg3) (arg m c Cert.KernelIdeal.main_arg4) (arg m c Cert.KernelIdeal.main_arg5)) (by decide) := by
  obtain ⟨h0, h1, h3, h4, h5, h6⟩ := real_args m h c
  exact attended_same _ _ _ _ _ _ h0 h3 h4 h5

/-- The output scores of the kernel program are the reference's, flattened. -/
theorem same_scoreO : scoreO m c = shapeCast Cert.KernelIdeal.S2048x8
    (scoresO (arg m c Cert.KernelIdeal.main_arg0) (arg m c Cert.KernelIdeal.main_arg1) (arg m c Cert.KernelIdeal.main_arg3) (arg m c Cert.KernelIdeal.main_arg4) (arg m c Cert.KernelIdeal.main_arg5) (arg m c Cert.KernelIdeal.main_arg6)) Cert.KernelIdeal.Gen.shapeCasts_S1x2048x8_S2048x8 := by
  unfold scoreO
  rw [same_attended m c h, unflat]
  rfl

/-- The output scores of finite arguments are real. -/
theorem real_scoreO : AllReal (scoresO (arg m c Cert.KernelIdeal.main_arg0) (arg m c Cert.KernelIdeal.main_arg1) (arg m c Cert.KernelIdeal.main_arg3) (arg m c Cert.KernelIdeal.main_arg4) (arg m c Cert.KernelIdeal.main_arg5) (arg m c Cert.KernelIdeal.main_arg6)) := by
  obtain ⟨h0, h1, h3, h4, h5, h6⟩ := real_args m h c
  exact scoresO_real _ _ _ _ _ _ h0 h1 h3 h4 h5 h6

/-- The output of the two programs are the same array. -/
theorem same_out : Cert.KernelIdeal.Gen.W5 m ρ c (Proc.devRef .tc Cert.KernelIdeal.main_v39)
    = Cert.ReferenceIdeal.Read.val_main_v102 (F := Ideal) (arg m c Cert.KernelIdeal.main_arg0) (arg m c Cert.KernelIdeal.main_arg1) (arg m c Cert.KernelIdeal.main_arg2) (arg m c Cert.KernelIdeal.main_arg3) (arg m c Cert.KernelIdeal.main_arg4) (arg m c Cert.KernelIdeal.main_arg5) (arg m c Cert.KernelIdeal.main_arg6) := by
  refine (Cert.KernelIdeal.Value.res_out m ρ c).trans (Eq.trans ?_ (link_out _ _ _ _ _ _ _).symm)
  rw [same_attended m c h, same_scoreO m c h]
  exact mixE_same _ (real_scoreO m c h) _ _ _

/-- The query weights of the two programs are the same array. -/
theorem same_qw : Cert.KernelIdeal.Gen.W5 m ρ c (Proc.devRef .tc Cert.KernelIdeal.main_v40)
    = Cert.ReferenceIdeal.Read.val_main_v12 (F := Ideal) (arg m c Cert.KernelIdeal.main_arg0) (arg m c Cert.KernelIdeal.main_arg3) := by
  obtain ⟨h0, h1, h3, h4, h5, h6⟩ := real_args m h c
  exact (Cert.KernelIdeal.Value.res_qw m ρ c).trans ((allW_same _ (scores_real _ _ h0 h3)).trans (link_qw _ _).symm)

/-- The query indices of the two programs are the same array. -/
theorem same_qi : Cert.KernelIdeal.Gen.W5 m ρ c (Proc.devRef .tc Cert.KernelIdeal.main_v41)
    = Cert.ReferenceIdeal.Read.val_main_indices (F := Ideal) (arg m c Cert.KernelIdeal.main_arg0) (arg m c Cert.KernelIdeal.main_arg3) := by
  obtain ⟨h0, h1, h3, h4, h5, h6⟩ := real_args m h c
  exact (Cert.KernelIdeal.Value.res_qi m ρ c).trans ((allI_same _ (scores_real _ _ h0 h3)).trans (link_qi _ _).symm)

/-- The key weights of the two programs are the same array. -/
theorem same_kw : Cert.KernelIdeal.Gen.W5 m ρ c (Proc.devRef .tc Cert.KernelIdeal.main_v42)
    = Cert.ReferenceIdeal.Read.val_main_v32 (F := Ideal) (arg m c Cert.KernelIdeal.main_arg0) (arg m c Cert.KernelIdeal.main_arg4) := by
  obtain ⟨h0, h1, h3, h4, h5, h6⟩ := real_args m h c
  exact (Cert.KernelIdeal.Value.res_kw m ρ c).trans ((allW_same _ (scores_real _ _ h0 h4)).trans (link_kw _ _).symm)

/-- The key indices of the two programs are the same array. -/
theorem same_ki : Cert.KernelIdeal.Gen.W5 m ρ c (Proc.devRef .tc Cert.KernelIdeal.main_v43)
    = Cert.ReferenceIdeal.Read.val_main_indices_4 (F := Ideal) (arg m c Cert.KernelIdeal.main_arg0) (arg m c Cert.KernelIdeal.main_arg4) := by
  obtain ⟨h0, h1, h3, h4, h5, h6⟩ := real_args m h c
  exact (Cert.KernelIdeal.Value.res_ki m ρ c).trans ((allI_same _ (scores_real _ _ h0 h4)).trans (link_ki _ _).symm)

/-- The value weights of the two programs are the same array. -/
theorem same_vw : Cert.KernelIdeal.Gen.W5 m ρ c (Proc.devRef .tc Cert.KernelIdeal.main_v44)
    = Cert.ReferenceIdeal.Read.val_main_v52 (F := Ideal) (arg m c Cert.KernelIdeal.main_arg0) (arg m c Cert.KernelIdeal.main_arg5) := by
  obtain ⟨h0, h1, h3, h4, h5, h6⟩ := real_args m h c
  exact (Cert.KernelIdeal.Value.res_vw m ρ c).trans ((allW_same _ (scores_real _ _ h0 h5)).trans (link_vw _ _).symm)

/-- The value indices of the two programs are the same array. -/
theorem same_vi : Cert.KernelIdeal.Gen.W5 m ρ c (Proc.devRef .tc Cert.KernelIdeal.main_v45)
    = Cert.ReferenceIdeal.Read.val_main_indices_10 (F := Ideal) (arg m c Cert.KernelIdeal.main_arg0) (arg m c Cert.KernelIdeal.main_arg5) := by
  obtain ⟨h0, h1, h3, h4, h5, h6⟩ := real_args m h c
  exact (Cert.KernelIdeal.Value.res_vi m ρ c).trans ((allI_same _ (scores_real _ _ h0 h5)).trans (link_vi _ _).symm)

/-- The output weights of the two programs are the same array. -/
theorem same_ow : Cert.KernelIdeal.Gen.W5 m ρ c (Proc.devRef .tc Cert.KernelIdeal.main_v46)
    = Cert.ReferenceIdeal.Read.val_main_v95 (F := Ideal) (arg m c Cert.KernelIdeal.main_arg0) (arg m c Cert.KernelIdeal.main_arg1) (arg m c Cert.KernelIdeal.main_arg3) (arg m c Cert.KernelIdeal.main_arg4) (arg m c Cert.KernelIdeal.main_arg5) (arg m c Cert.KernelIdeal.main_arg6) := by
  refine (Cert.KernelIdeal.Value.res_ow m ρ c).trans (Eq.trans ?_ (link_ow _ _ _ _ _ _).symm)
  rw [same_scoreO m c h]
  exact allW_same _ (real_scoreO m c h)

/-- The output indices of the two programs are the same array. -/
theorem same_oi : Cert.KernelIdeal.Gen.W5 m ρ c (Proc.devRef .tc Cert.KernelIdeal.main_v47)
    = Cert.ReferenceIdeal.Read.val_main_indices_20 (F := Ideal) (arg m c Cert.KernelIdeal.main_arg0) (arg m c Cert.KernelIdeal.main_arg1) (arg m c Cert.KernelIdeal.main_arg3) (arg m c Cert.KernelIdeal.main_arg4) (arg m c Cert.KernelIdeal.main_arg5) (arg m c Cert.KernelIdeal.main_arg6) := by
  refine (Cert.KernelIdeal.Value.res_oi m ρ c).trans (Eq.trans ?_ (link_oi _ _ _ _ _ _).symm)
  rw [same_scoreO m c h]
  exact allI_same _ (real_scoreO m c h)

end Results

/-- The reference ends with its arguments unchanged; it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2.2.2.2.2.2.2.2.2, sem_eq_zero_of_no_sems (by decide) r.2⟩)
    (Cert.ReferenceIdeal.Value.run m g)

/-- Over finite arguments that agree, the kernel program and the reference end with the same nine results. -/
theorem same_results : Cert.algebraic_KernelIdeal_ReferenceIdeal_pre_finite_inputs := by
  intro m g m' g' h hag
  refine ⟨fun c => Cert.KernelIdeal.Gen.W5 m g c (Proc.devRef .tc Cert.KernelIdeal.main_v39), fun c => Cert.KernelIdeal.Gen.W5 m g c (Proc.devRef .tc Cert.KernelIdeal.main_v40), fun c => Cert.KernelIdeal.Gen.W5 m g c (Proc.devRef .tc Cert.KernelIdeal.main_v41), fun c => Cert.KernelIdeal.Gen.W5 m g c (Proc.devRef .tc Cert.KernelIdeal.main_v42), fun c => Cert.KernelIdeal.Gen.W5 m g c (Proc.devRef .tc Cert.KernelIdeal.main_v43), fun c => Cert.KernelIdeal.Gen.W5 m g c (Proc.devRef .tc Cert.KernelIdeal.main_v44), fun c => Cert.KernelIdeal.Gen.W5 m g c (Proc.devRef .tc Cert.KernelIdeal.main_v45), fun c => Cert.KernelIdeal.Gen.W5 m g c (Proc.devRef .tc Cert.KernelIdeal.main_v46), fun c => Cert.KernelIdeal.Gen.W5 m g c (Proc.devRef .tc Cert.KernelIdeal.main_v47),
    Cert.KernelIdeal.Value.run m g, (θ_run _ _ _).mono (fun r hr c => ?_) (Cert.ReferenceIdeal.Value.run m' g')⟩
  obtain ⟨a0, a1, a2, a3, a4, a5, a6⟩ := hag c
  obtain ⟨r0, r1, r2, r3, r4, r5, r6, r7, r8, ra⟩ := hr c
  refine ⟨r0.trans ?_, r1.trans ?_, r2.trans ?_, r3.trans ?_, r4.trans ?_, r5.trans ?_, r6.trans ?_, r7.trans ?_, r8.trans ?_, ra⟩
  · refine (Cert.ReferenceIdeal.Read.val_main_v102_eq (F := Ideal) _).trans (Eq.trans ?_ (same_out m g c h).symm)
    show Cert.ReferenceIdeal.Read.val_main_v102 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [a0, a1, a2, a3, a4, a5, a6]
  · refine (Cert.ReferenceIdeal.Read.val_main_v12_eq (F := Ideal) _).trans (Eq.trans ?_ (same_qw m g c h).symm)
    show Cert.ReferenceIdeal.Read.val_main_v12 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) = _
    rw [a0, a3]
  · refine (Cert.ReferenceIdeal.Read.val_main_indices_eq (F := Ideal) _).trans (Eq.trans ?_ (same_qi m g c h).symm)
    show Cert.ReferenceIdeal.Read.val_main_indices (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) = _
    rw [a0, a3]
  · refine (Cert.ReferenceIdeal.Read.val_main_v32_eq (F := Ideal) _).trans (Eq.trans ?_ (same_kw m g c h).symm)
    show Cert.ReferenceIdeal.Read.val_main_v32 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) = _
    rw [a0, a4]
  · refine (Cert.ReferenceIdeal.Read.val_main_indices_4_eq (F := Ideal) _).trans (Eq.trans ?_ (same_ki m g c h).symm)
    show Cert.ReferenceIdeal.Read.val_main_indices_4 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) = _
    rw [a0, a4]
  · refine (Cert.ReferenceIdeal.Read.val_main_v52_eq (F := Ideal) _).trans (Eq.trans ?_ (same_vw m g c h).symm)
    show Cert.ReferenceIdeal.Read.val_main_v52 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) = _
    rw [a0, a5]
  · refine (Cert.ReferenceIdeal.Read.val_main_indices_10_eq (F := Ideal) _).trans (Eq.trans ?_ (same_vi m g c h).symm)
    show Cert.ReferenceIdeal.Read.val_main_indices_10 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) = _
    rw [a0, a5]
  · refine (Cert.ReferenceIdeal.Read.val_main_v95_eq (F := Ideal) _).trans (Eq.trans ?_ (same_ow m g c h).symm)
    show Cert.ReferenceIdeal.Read.val_main_v95 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [a0, a1, a3, a4, a5, a6]
  · refine (Cert.ReferenceIdeal.Read.val_main_indices_20_eq (F := Ideal) _).trans (Eq.trans ?_ (same_oi m g c h).symm)
    show Cert.ReferenceIdeal.Read.val_main_indices_20 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [a0, a1, a3, a4, a5, a6]

end Cert.Final
-- ==== Proof.lean ====
/-
  THE PROOF OF `Cert.Claim`: the frames of the kernel program as written, of the kernel program at the ideal and of the
  reference; that the idealization preserves the kernel program; and that, over finite arguments, the ideal kernel program and
  the ideal reference end with the same nine results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_inputs
public import proofs.«01_k».proof.Proof.Final

@[expose] public section

noncomputable section

namespace Cert.Proof

open Idealize.ShloMosaic Idealize.SL.Sem

/-- Every claim of the certificate, over the witnesses of the side conditions the programs state. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g,
    fun m g _ => Cert.KernelIdeal.Gen.frame m g,
    fun m g _ => Cert.KernelIdeal.Gen.frame m g,
    fun m g _ => Cert.Final.frame_reference m g,
    fun m g _ => Cert.Final.frame_reference m g,
    trivial,
    Cert.Final.same_results⟩

end Cert.Proof

end
